-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v367) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x1024 : Shape := ⟨3, ![8, 2048, 1024]⟩
abbrev S2048x1024 : Shape := ⟨2, ![2048, 1024]⟩
abbrev S2048 : Shape := ⟨1, ![2048]⟩
abbrev S50x2048 : Shape := ⟨2, ![50, 2048]⟩
abbrev S5x2048 : Shape := ⟨2, ![5, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048 : S_.BroadcastsInDim S2048 (![] : Fin 0 → Fin S2048.rank)
  reducesTo_S2048_S_d0 : S2048.ReducesTo [0] S_
  bcast_S_S50x2048 : S_.BroadcastsInDim S50x2048 (![] : Fin 0 → Fin S50x2048.rank)
  reducesTo_S50x2048_S_d0_1 : S50x2048.ReducesTo [0, 1] S_
  bcast_S_S5x2048 : S_.BroadcastsInDim S5x2048 (![] : Fin 0 → Fin S5x2048.rank)
  reducesTo_S5x2048_S_d0_1 : S5x2048.ReducesTo [0, 1] S_

variable [Facts]

def fn_part1 {F : FTy → Type} [FloatOps F] (main_v13 : IVec S_ 1) (main_v16 : IVec S5x2048 1) : IVec S_ 1 :=
  let main_c_5 : IVec S_ 1 := constantI S_ 1 1#1
  let main_v17 : IVec S_ 1 := (fun x v => Host.reduce IntOp.andi x v reducesTo_S5x2048_S_d0_1 h_S_) main_v16 main_c_5
  let main_v18 : IVec S_ 1 := andi main_v13 main_v17
  main_v18

def fn {F : FTy → Type} [FloatOps F] (main_arg0 : FVec F S8x2048x1024 .f32) (main_arg1 : FVec F S2048x1024 .f32) (main_arg2 : FVec F S2048 .f32) (main_arg3 : FVec F S50x2048 .f32) (main_arg4 : FVec F S5x2048 .f32) (main_arg5 : FVec F S2048 .f32) (main_arg6 : FVec F S2048 .f32) : IVec S_ 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S50x2048 .f32 := Host.absf main_arg3
  let main_cst_2 : FVec F S_ .f32 := constant S_ .f32 0x7F800000#32
  let main_v10 : FVec F S50x2048 .f32 := broadcastInDim S50x2048 ![] bcast_S_S50x2048 main_cst_2
  let main_v11 : IVec S50x2048 1 := cmpf .olt main_v9 main_v10
  let main_c_3 : IVec S_ 1 := constantI S_ 1 1#1
  let main_v12 : IVec S_ 1 := (fun x v => Host.reduce IntOp.andi x v reducesTo_S50x2048_S_d0_1 h_S_) main_v11 main_c_3
  let main_v13 : IVec S_ 1 := andi main_v8 main_v12
  let main_v14 : FVec F S5x2048 .f32 := Host.absf main_arg4
  let main_cst_4 : FVec F S_ .f32 := constant S_ .f32 0x7F800000#32
  let main_v15 : FVec F S5x2048 .f32 := broadcastInDim S5x2048 ![] bcast_S_S5x2048 main_cst_4
  let main_v16 : IVec S5x2048 1 := cmpf .olt main_v14 main_v15
  fn_part1 (F := F) main_v13 main_v16
-- ==== Kernel.lean ====
abbrev S8x2048x1024 : Shape := ⟨3, ![8, 2048, 1024]⟩
abbrev S2048x1024 : Shape := ⟨2, ![2048, 1024]⟩
abbrev S2048 : Shape := ⟨1, ![2048]⟩
abbrev S50x2048 : Shape := ⟨2, ![50, 2048]⟩
abbrev S5x2048 : Shape := ⟨2, ![5, 2048]⟩
abbrev S1x2048 : Shape := ⟨2, ![1, 2048]⟩
abbrev S8x2048x2048 : Shape := ⟨3, ![8, 2048, 2048]⟩
abbrev S1x64x1024 : Shape := ⟨3, ![1, 64, 1024]⟩
abbrev S1x1024x1024 : Shape := ⟨3, ![1, 1024, 1024]⟩
abbrev S1x8x1024 : Shape := ⟨3, ![1, 8, 1024]⟩
abbrev S1x1024x2048 : Shape := ⟨3, ![1, 1024, 2048]⟩
abbrev S3x256x328 : Shape := ⟨3, ![3, 256, 328]⟩
abbrev S2x256x1024 : Shape := ⟨3, ![2, 256, 1024]⟩
abbrev S2x256x2048 : Shape := ⟨3, ![2, 256, 2048]⟩
abbrev S50 : Shape := ⟨1, ![50]⟩
abbrev S50x1 : Shape := ⟨2, ![50, 1]⟩
abbrev S5 : Shape := ⟨1, ![5]⟩
abbrev S5x1 : Shape := ⟨2, ![5, 1]⟩
abbrev S256x328 : Shape := ⟨2, ![256, 328]⟩
abbrev S1x1 : Shape := ⟨2, ![1, 1]⟩
abbrev S1x256x328 : Shape := ⟨3, ![1, 256, 328]⟩
abbrev S64x1024 : Shape := ⟨2, ![64, 1024]⟩
abbrev S1024x1024 : Shape := ⟨2, ![1024, 1024]⟩
abbrev S8x1024 : Shape := ⟨2, ![8, 1024]⟩
abbrev S1096x1024 : Shape := ⟨2, ![1096, 1024]⟩
abbrev S328x1024 : Shape := ⟨2, ![328, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x2048 : Shape := ⟨2, ![256, 2048]⟩
abbrev S1x256x2048 : Shape := ⟨3, ![1, 256, 2048]⟩
abbrev S1x32x2048 : Shape := ⟨3, ![1, 32, 2048]⟩
abbrev S32x2048 : Shape := ⟨2, ![32, 2048]⟩
abbrev S32x1 : Shape := ⟨2, ![32, 1]⟩
abbrev S32 : Shape := ⟨1, ![32]⟩

abbrev nBuf : Space → Nat
  | .hbm => 12
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S2048x1024, .f32⟩
  | .hbm, ⟨2, _⟩ => ⟨S2048, .f32⟩
  | .hbm, ⟨3, _⟩ => ⟨S50x2048, .f32⟩
  | .hbm, ⟨4, _⟩ => ⟨S5x2048, .f32⟩
  | .hbm, ⟨5, _⟩ => ⟨S2048, .f32⟩
  | .hbm, ⟨6, _⟩ => ⟨S2048, .f32⟩
  | .hbm, ⟨7, _⟩ => ⟨S2048x1024, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8x2048x2048, .f32⟩
  | .local _ .vmem, ⟨0, _⟩ => ⟨S50x2048, .f32⟩
  | .local _ .vmem, ⟨1, _⟩ => ⟨S5x2048, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x8x1024, .f32⟩
  | .local _ .vmem, ⟨7, _⟩ => ⟨S1x8x1024, .f32⟩
  | .local _ .vmem, ⟨8, _⟩ => ⟨S2048x1024, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x1024x2048, .f32⟩
  | .local _ .vmem, ⟨13, _⟩ => ⟨S1x1024x2048, .f32⟩
  | .local _ .vmem, ⟨14, _⟩ => ⟨S3x256x328, .bf16⟩
  | .local _ .vmem, ⟨15, _⟩ => ⟨S2x256x1024, .bf16⟩
  | .local _ .vmem, ⟨16, _⟩ => ⟨S2x256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 2], ![false, false]⟩

def k0_off1 (i : grid0.Coords) (c0_i32_10 : BitVec 32) (c1_i32 : BitVec 32) : Fin 3 → Nat :=
  let arg1 : BitVec 32 := BitVec.ofNat 32 (i 1).val
  let v13 : BitVec 1 := Scalar.cmpi .eq arg1 c0_i32_10
  let c0_i32_11 : BitVec 32 := 0#32
  let v14 : BitVec 32 := Scalar.select v13 c1_i32 c0_i32_11
  let v15 : Index := Scalar.indexCast v14
  let c0_12 : Index := 0#32
  let c0_13 : Index := 0#32
  ![v15.toNat, 0, 0]
def k0_off1_at (r : Fin 2) : BitVec 32 × BitVec 32 :=
  if r.val < 1 then
    (0#32, 1#32)
  else
    (1#32, 2#32)
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S50x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S5x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x2048x1024 : Shape := ⟨3, ![8, 2048, 1024]⟩
abbrev S2048x1024 : Shape := ⟨2, ![2048, 1024]⟩
abbrev S2048 : Shape := ⟨1, ![2048]⟩
abbrev S50x2048 : Shape := ⟨2, ![50, 2048]⟩
abbrev S5x2048 : Shape := ⟨2, ![5, 2048]⟩
abbrev S8x2048x2048 : Shape := ⟨3, ![8, 2048, 2048]⟩
abbrev S1x1x2048 : Shape := ⟨3, ![1, 1, 2048]⟩
abbrev S_ : Shape := ⟨0, ![]⟩
abbrev S50 : Shape := ⟨1, ![50]⟩
abbrev S5 : Shape := ⟨1, ![5]⟩
abbrev S8x2098x2048 : Shape := ⟨3, ![8, 2098, 2048]⟩
abbrev S1 : Shape := ⟨1, ![1]⟩
abbrev S8x2049x2048 : Shape := ⟨3, ![8, 2049, 2048]⟩
abbrev S8x50x2048 : Shape := ⟨3, ![8, 50, 2048]⟩
abbrev S1x50x1 : Shape := ⟨3, ![1, 50, 1]⟩
abbrev S8x1x2048 : Shape := ⟨3, ![8, 1, 2048]⟩
abbrev S8x49x2048 : Shape := ⟨3, ![8, 49, 2048]⟩
abbrev S8x1998x2048 : Shape := ⟨3, ![8, 1998, 2048]⟩
abbrev S8x2053x2048 : Shape := ⟨3, ![8, 2053, 2048]⟩
abbrev S8x2048 : Shape := ⟨2, ![8, 2048]⟩
abbrev S8x2048x1 : Shape := ⟨3, ![8, 2048, 1]⟩

abbrev nBuf : Space → Nat
  | .hbm => 410
  | .vmem => 0
  | .smem => 0
  | _ => 0

abbrev hbmTy0_0 (i : Nat) : BufTy := match i % 128 with
  | 0 => ⟨S8x2048x1024, .f32⟩
  | 1 => ⟨S2048x1024, .f32⟩
  | 2 => ⟨S2048, .f32⟩
  | 3 => ⟨S50x2048, .f32⟩
  | 4 => ⟨S5x2048, .f32⟩
  | 5 => ⟨S2048, .f32⟩
  | 6 => ⟨S2048, .f32⟩
  | 7 => ⟨S8x2048x2048, .f32⟩
  | 8 => ⟨S1x1x2048, .f32⟩
  | 9 => ⟨S8x2048x2048, .f32⟩
  | 10 => ⟨S8x2048x2048, .f32⟩
  | 11 => ⟨S_, .f32⟩
  | 12 => ⟨S50, .f32⟩
  | 13 => ⟨S_, .f32⟩
  | 14 => ⟨S5, .f32⟩
  | 15 => ⟨S_, .i32⟩
  | 16 => ⟨S_, .f32⟩
  | 17 => ⟨S8x2098x2048, .f32⟩
  | 18 => ⟨S1, .f32⟩
  | 19 => ⟨S_, .f32⟩
  | 20 => ⟨S8x2049x2048, .f32⟩
  | 21 => ⟨S8x2049x2048, .f32⟩
  | 22 => ⟨S8x2049x2048, .f32⟩
  | 23 => ⟨S1, .f32⟩
  | 24 => ⟨S_, .f32⟩
  | 25 => ⟨S8x2049x2048, .f32⟩
  | 26 => ⟨S8x2049x2048, .f32⟩
  | 27 => ⟨S8x2049x2048, .f32⟩
  | 28 => ⟨S8x2049x2048, .f32⟩
  | 29 => ⟨S1, .f32⟩
  | 30 => ⟨S_, .f32⟩
  | 31 => ⟨S8x2049x2048, .f32⟩
  | 32 => ⟨S8x2049x2048, .f32⟩
  | 33 => ⟨S8x2049x2048, .f32⟩
  | 34 => ⟨S8x2049x2048, .f32⟩
  | 35 => ⟨S1, .f32⟩
  | 36 => ⟨S_, .f32⟩
  | 37 => ⟨S8x2049x2048, .f32⟩
  | 38 => ⟨S8x2049x2048, .f32⟩
  | 39 => ⟨S8x2049x2048, .f32⟩
  | 40 => ⟨S8x2049x2048, .f32⟩
  | 41 => ⟨S1, .f32⟩
  | 42 => ⟨S_, .f32⟩
  | 43 => ⟨S8x2049x2048, .f32⟩
  | 44 => ⟨S8x2049x2048, .f32⟩
  | 45 => ⟨S8x2049x2048, .f32⟩
  | 46 => ⟨S8x2049x2048, .f32⟩
  | 47 => ⟨S1, .f32⟩
  | 48 => ⟨S_, .f32⟩
  | 49 => ⟨S8x2049x2048, .f32⟩
  | 50 => ⟨S8x2049x2048, .f32⟩
  | 51 => ⟨S8x2049x2048, .f32⟩
  | 52 => ⟨S8x2049x2048, .f32⟩
  | 53 => ⟨S1, .f32⟩
  | 54 => ⟨S_, .f32⟩
  | 55 => ⟨S8x2049x2048, .f32⟩
  | 56 => ⟨S8x2049x2048, .f32⟩
  | 57 => ⟨S8x2049x2048, .f32⟩
  | 58 => ⟨S8x2049x2048, .f32⟩
  | 59 => ⟨S1, .f32⟩
  | 60 => ⟨S_, .f32⟩
  | 61 => ⟨S8x2049x2048, .f32⟩
  | 62 => ⟨S8x2049x2048, .f32⟩
  | 63 => ⟨S8x2049x2048, .f32⟩
  | 64 => ⟨S8x2049x2048, .f32⟩
  | 65 => ⟨S1, .f32⟩
  | 66 => ⟨S_, .f32⟩
  | 67 => ⟨S8x2049x2048, .f32⟩
  | 68 => ⟨S8x2049x2048, .f32⟩
  | 69 => ⟨S8x2049x2048, .f32⟩
  | 70 => ⟨S8x2049x2048, .f32⟩
  | 71 => ⟨S1, .f32⟩
  | 72 => ⟨S_, .f32⟩
  | 73 => ⟨S8x2049x2048, .f32⟩
  | 74 => ⟨S8x2049x2048, .f32⟩
  | 75 => ⟨S8x2049x2048, .f32⟩
  | 76 => ⟨S8x2049x2048, .f32⟩
  | 77 => ⟨S1, .f32⟩
  | 78 => ⟨S_, .f32⟩
  | 79 => ⟨S8x2049x2048, .f32⟩
  | 80 => ⟨S8x2049x2048, .f32⟩
  | 81 => ⟨S8x2049x2048, .f32⟩
  | 82 => ⟨S8x2049x2048, .f32⟩
  | 83 => ⟨S1, .f32⟩
  | 84 => ⟨S_, .f32⟩
  | 85 => ⟨S8x2049x2048, .f32⟩
  | 86 => ⟨S8x2049x2048, .f32⟩
  | 87 => ⟨S8x2049x2048, .f32⟩
  | 88 => ⟨S8x2049x2048, .f32⟩
  | 89 => ⟨S1, .f32⟩
  | 90 => ⟨S_, .f32⟩
  | 91 => ⟨S8x2049x2048, .f32⟩
  | 92 => ⟨S8x2049x2048, .f32⟩
  | 93 => ⟨S8x2049x2048, .f32⟩
  | 94 => ⟨S8x2049x2048, .f32⟩
  | 95 => ⟨S1, .f32⟩
  | 96 => ⟨S_, .f32⟩
  | 97 => ⟨S8x2049x2048, .f32⟩
  | 98 => ⟨S8x2049x2048, .f32⟩
  | 99 => ⟨S8x2049x2048, .f32⟩
  | 100 => ⟨S8x2049x2048, .f32⟩
  | 101 => ⟨S1, .f32⟩
  | 102 => ⟨S_, .f32⟩
  | 103 => ⟨S8x2049x2048, .f32⟩
  | 104 => ⟨S8x2049x2048, .f32⟩
  | 105 => ⟨S8x2049x2048, .f32⟩
  | 106 => ⟨S8x2049x2048, .f32⟩
  | 107 => ⟨S1, .f32⟩
  | 108 => ⟨S_, .f32⟩
  | 109 => ⟨S8x2049x2048, .f32⟩
  | 110 => ⟨S8x2049x2048, .f32⟩
  | 111 => ⟨S8x2049x2048, .f32⟩
  | 112 => ⟨S8x2049x2048, .f32⟩
  | 113 => ⟨S1, .f32⟩
  | 114 => ⟨S_, .f32⟩
  | 115 => ⟨S8x2049x2048, .f32⟩
  | 116 => ⟨S8x2049x2048, .f32⟩
  | 117 => ⟨S8x2049x2048, .f32⟩
  | 118 => ⟨S8x2049x2048, .f32⟩
  | 119 => ⟨S1, .f32⟩
  | 120 => ⟨S_, .f32⟩
  | 121 => ⟨S8x2049x2048, .f32⟩
  | 122 => ⟨S8x2049x2048, .f32⟩
  | 123 => ⟨S8x2049x2048, .f32⟩
  | 124 => ⟨S8x2049x2048, .f32⟩
  | 125 => ⟨S1, .f32⟩
  | 126 => ⟨S_, .f32⟩
  | 127 => ⟨S8x2049x2048, .f32⟩
  | _ => ⟨S8x2048x1024, .f32⟩

abbrev hbmTy0_1 (i : Nat) : BufTy := match i % 128 with
  | 0 => ⟨S8x2049x2048, .f32⟩
  | 1 => ⟨S8x2049x2048, .f32⟩
  | 2 => ⟨S8x2049x2048, .f32⟩
  | 3 => ⟨S1, .f32⟩
  | 4 => ⟨S_, .f32⟩
  | 5 => ⟨S8x2049x2048, .f32⟩
  | 6 => ⟨S8x2049x2048, .f32⟩
  | 7 => ⟨S8x2049x2048, .f32⟩
  | 8 => ⟨S8x2049x2048, .f32⟩
  | 9 => ⟨S1, .f32⟩
  | 10 => ⟨S_, .f32⟩
  | 11 => ⟨S8x2049x2048, .f32⟩
  | 12 => ⟨S8x2049x2048, .f32⟩
  | 13 => ⟨S8x2049x2048, .f32⟩
  | 14 => ⟨S8x2049x2048, .f32⟩
  | 15 => ⟨S1, .f32⟩
  | 16 => ⟨S_, .f32⟩
  | 17 => ⟨S8x2049x2048, .f32⟩
  | 18 => ⟨S8x2049x2048, .f32⟩
  | 19 => ⟨S8x2049x2048, .f32⟩
  | 20 => ⟨S8x2049x2048, .f32⟩
  | 21 => ⟨S1, .f32⟩
  | 22 => ⟨S_, .f32⟩
  | 23 => ⟨S8x2049x2048, .f32⟩
  | 24 => ⟨S8x2049x2048, .f32⟩
  | 25 => ⟨S8x2049x2048, .f32⟩
  | 26 => ⟨S8x2049x2048, .f32⟩
  | 27 => ⟨S1, .f32⟩
  | 28 => ⟨S_, .f32⟩
  | 29 => ⟨S8x2049x2048, .f32⟩
  | 30 => ⟨S8x2049x2048, .f32⟩
  | 31 => ⟨S8x2049x2048, .f32⟩
  | 32 => ⟨S8x2049x2048, .f32⟩
  | 33 => ⟨S1, .f32⟩
  | 34 => ⟨S_, .f32⟩
  | 35 => ⟨S8x2049x2048, .f32⟩
  | 36 => ⟨S8x2049x2048, .f32⟩
  | 37 => ⟨S8x2049x2048, .f32⟩
  | 38 => ⟨S8x2049x2048, .f32⟩
  | 39 => ⟨S1, .f32⟩
  | 40 => ⟨S_, .f32⟩
  | 41 => ⟨S8x2049x2048, .f32⟩
  | 42 => ⟨S8x2049x2048, .f32⟩
  | 43 => ⟨S8x2049x2048, .f32⟩
  | 44 => ⟨S8x2049x2048, .f32⟩
  | 45 => ⟨S1, .f32⟩
  | 46 => ⟨S_, .f32⟩
  | 47 => ⟨S8x2049x2048, .f32⟩
  | 48 => ⟨S8x2049x2048, .f32⟩
  | 49 => ⟨S8x2049x2048, .f32⟩
  | 50 => ⟨S8x2049x2048, .f32⟩
  | 51 => ⟨S1, .f32⟩
  | 52 => ⟨S_, .f32⟩
  | 53 => ⟨S8x2049x2048, .f32⟩
  | 54 => ⟨S8x2049x2048, .f32⟩
  | 55 => ⟨S8x2049x2048, .f32⟩
  | 56 => ⟨S8x2049x2048, .f32⟩
  | 57 => ⟨S1, .f32⟩
  | 58 => ⟨S_, .f32⟩
  | 59 => ⟨S8x2049x2048, .f32⟩
  | 60 => ⟨S8x2049x2048, .f32⟩
  | 61 => ⟨S8x2049x2048, .f32⟩
  | 62 => ⟨S8x2049x2048, .f32⟩
  | 63 => ⟨S1, .f32⟩
  | 64 => ⟨S_, .f32⟩
  | 65 => ⟨S8x2049x2048, .f32⟩
  | 66 => ⟨S8x2049x2048, .f32⟩
  | 67 => ⟨S8x2049x2048, .f32⟩
  | 68 => ⟨S8x2049x2048, .f32⟩
  | 69 => ⟨S1, .f32⟩
  | 70 => ⟨S_, .f32⟩
  | 71 => ⟨S8x2049x2048, .f32⟩
  | 72 => ⟨S8x2049x2048, .f32⟩
  | 73 => ⟨S8x2049x2048, .f32⟩
  | 74 => ⟨S8x2049x2048, .f32⟩
  | 75 => ⟨S1, .f32⟩
  | 76 => ⟨S_, .f32⟩
  | 77 => ⟨S8x2049x2048, .f32⟩
  | 78 => ⟨S8x2049x2048, .f32⟩
  | 79 => ⟨S8x2049x2048, .f32⟩
  | 80 => ⟨S8x2049x2048, .f32⟩
  | 81 => ⟨S1, .f32⟩
  | 82 => ⟨S_, .f32⟩
  | 83 => ⟨S8x2049x2048, .f32⟩
  | 84 => ⟨S8x2049x2048, .f32⟩
  | 85 => ⟨S8x2049x2048, .f32⟩
  | 86 => ⟨S8x2049x2048, .f32⟩
  | 87 => ⟨S1, .f32⟩
  | 88 => ⟨S_, .f32⟩
  | 89 => ⟨S8x2049x2048, .f32⟩
  | 90 => ⟨S8x2049x2048, .f32⟩
  | 91 => ⟨S8x2049x2048, .f32⟩
  | 92 => ⟨S8x2049x2048, .f32⟩
  | 93 => ⟨S1, .f32⟩
  | 94 => ⟨S_, .f32⟩
  | 95 => ⟨S8x2049x2048, .f32⟩
  | 96 => ⟨S8x2049x2048, .f32⟩
  | 97 => ⟨S8x2049x2048, .f32⟩
  | 98 => ⟨S8x2049x2048, .f32⟩
  | 99 => ⟨S1, .f32⟩
  | 100 => ⟨S_, .f32⟩
  | 101 => ⟨S8x2049x2048, .f32⟩
  | 102 => ⟨S8x2049x2048, .f32⟩
  | 103 => ⟨S8x2049x2048, .f32⟩
  | 104 => ⟨S8x2049x2048, .f32⟩
  | 105 => ⟨S1, .f32⟩
  | 106 => ⟨S_, .f32⟩
  | 107 => ⟨S8x2049x2048, .f32⟩
  | 108 => ⟨S8x2049x2048, .f32⟩
  | 109 => ⟨S8x2049x2048, .f32⟩
  | 110 => ⟨S8x2049x2048, .f32⟩
  | 111 => ⟨S1, .f32⟩
  | 112 => ⟨S_, .f32⟩
  | 113 => ⟨S8x2049x2048, .f32⟩
  | 114 => ⟨S8x2049x2048, .f32⟩
  | 115 => ⟨S8x2049x2048, .f32⟩
  | 116 => ⟨S8x2049x2048, .f32⟩
  | 117 => ⟨S1, .f32⟩
  | 118 => ⟨S_, .f32⟩
  | 119 => ⟨S8x2049x2048, .f32⟩
  | 120 => ⟨S8x2049x2048, .f32⟩
  | 121 => ⟨S8x2049x2048, .f32⟩
  | 122 => ⟨S8x2049x2048, .f32⟩
  | 123 => ⟨S1, .f32⟩
  | 124 => ⟨S_, .f32⟩
  | 125 => ⟨S8x2049x2048, .f32⟩
  | 126 => ⟨S8x2049x2048, .f32⟩
  | 127 => ⟨S8x2049x2048, .f32⟩
  | _ => ⟨S8x2048x1024, .f32⟩

abbrev hbmTy0_2 (i : Nat) : BufTy := match i % 128 with
  | 0 => ⟨S8x2049x2048, .f32⟩
  | 1 => ⟨S1, .f32⟩
  | 2 => ⟨S_, .f32⟩
  | 3 => ⟨S8x2049x2048, .f32⟩
  | 4 => ⟨S8x2049x2048, .f32⟩
  | 5 => ⟨S8x2049x2048, .f32⟩
  | 6 => ⟨S8x2049x2048, .f32⟩
  | 7 => ⟨S1, .f32⟩
  | 8 => ⟨S_, .f32⟩
  | 9 => ⟨S8x2049x2048, .f32⟩
  | 10 => ⟨S8x2049x2048, .f32⟩
  | 11 => ⟨S8x2049x2048, .f32⟩
  | 12 => ⟨S8x2049x2048, .f32⟩
  | 13 => ⟨S1, .f32⟩
  | 14 => ⟨S_, .f32⟩
  | 15 => ⟨S8x2049x2048, .f32⟩
  | 16 => ⟨S8x2049x2048, .f32⟩
  | 17 => ⟨S8x2049x2048, .f32⟩
  | 18 => ⟨S8x2049x2048, .f32⟩
  | 19 => ⟨S1, .f32⟩
  | 20 => ⟨S_, .f32⟩
  | 21 => ⟨S8x2049x2048, .f32⟩
  | 22 => ⟨S8x2049x2048, .f32⟩
  | 23 => ⟨S8x2049x2048, .f32⟩
  | 24 => ⟨S8x2049x2048, .f32⟩
  | 25 => ⟨S1, .f32⟩
  | 26 => ⟨S_, .f32⟩
  | 27 => ⟨S8x2049x2048, .f32⟩
  | 28 => ⟨S8x2049x2048, .f32⟩
  | 29 => ⟨S8x2049x2048, .f32⟩
  | 30 => ⟨S8x2049x2048, .f32⟩
  | 31 => ⟨S1, .f32⟩
  | 32 => ⟨S_, .f32⟩
  | 33 => ⟨S8x2049x2048, .f32⟩
  | 34 => ⟨S8x2049x2048, .f32⟩
  | 35 => ⟨S8x2049x2048, .f32⟩
  | 36 => ⟨S8x2049x2048, .f32⟩
  | 37 => ⟨S1, .f32⟩
  | 38 => ⟨S_, .f32⟩
  | 39 => ⟨S8x2049x2048, .f32⟩
  | 40 => ⟨S8x2049x2048, .f32⟩
  | 41 => ⟨S8x2049x2048, .f32⟩
  | 42 => ⟨S8x2049x2048, .f32⟩
  | 43 => ⟨S1, .f32⟩
  | 44 => ⟨S_, .f32⟩
  | 45 => ⟨S8x2049x2048, .f32⟩
  | 46 => ⟨S8x2049x2048, .f32⟩
  | 47 => ⟨S8x2049x2048, .f32⟩
  | 48 => ⟨S8x2049x2048, .f32⟩
  | 49 => ⟨S1, .f32⟩
  | 50 => ⟨S_, .f32⟩
  | 51 => ⟨S8x2049x2048, .f32⟩
  | 52 => ⟨S8x2049x2048, .f32⟩
  | 53 => ⟨S8x2049x2048, .f32⟩
  | 54 => ⟨S8x2049x2048, .f32⟩
  | 55 => ⟨S1, .f32⟩
  | 56 => ⟨S_, .f32⟩
  | 57 => ⟨S8x2049x2048, .f32⟩
  | 58 => ⟨S8x2049x2048, .f32⟩
  | 59 => ⟨S8x2049x2048, .f32⟩
  | 60 => ⟨S8x2049x2048, .f32⟩
  | 61 => ⟨S8x2048x2048, .f32⟩
  | 62 => ⟨S8x50x2048, .f32⟩
  | 63 => ⟨S1x50x1, .f32⟩
  | 64 => ⟨S8x50x2048, .f32⟩
  | 65 => ⟨S8x50x2048, .f32⟩
  | 66 => ⟨S_, .f32⟩
  | 67 => ⟨S_, .f32⟩
  | 68 => ⟨S8x50x2048, .f32⟩
  | 69 => ⟨S_, .f32⟩
  | 70 => ⟨S8x1x2048, .f32⟩
  | 71 => ⟨S8x49x2048, .f32⟩
  | 72 => ⟨S8x50x2048, .f32⟩
  | 73 => ⟨S8x1998x2048, .f32⟩
  | 74 => ⟨S8x2048x2048, .f32⟩
  | 75 => ⟨S_, .i32⟩
  | 76 => ⟨S_, .f32⟩
  | 77 => ⟨S8x2053x2048, .f32⟩
  | 78 => ⟨S1, .f32⟩
  | 79 => ⟨S_, .f32⟩
  | 80 => ⟨S8x2049x2048, .f32⟩
  | 81 => ⟨S8x2049x2048, .f32⟩
  | 82 => ⟨S8x2049x2048, .f32⟩
  | 83 => ⟨S1, .f32⟩
  | 84 => ⟨S_, .f32⟩
  | 85 => ⟨S8x2049x2048, .f32⟩
  | 86 => ⟨S8x2049x2048, .f32⟩
  | 87 => ⟨S8x2049x2048, .f32⟩
  | 88 => ⟨S8x2049x2048, .f32⟩
  | 89 => ⟨S1, .f32⟩
  | 90 => ⟨S_, .f32⟩
  | 91 => ⟨S8x2049x2048, .f32⟩
  | 92 => ⟨S8x2049x2048, .f32⟩
  | 93 => ⟨S8x2049x2048, .f32⟩
  | 94 => ⟨S8x2049x2048, .f32⟩
  | 95 => ⟨S1, .f32⟩
  | 96 => ⟨S_, .f32⟩
  | 97 => ⟨S8x2049x2048, .f32⟩
  | 98 => ⟨S8x2049x2048, .f32⟩
  | 99 => ⟨S8x2049x2048, .f32⟩
  | 100 => ⟨S8x2049x2048, .f32⟩
  | 101 => ⟨S1, .f32⟩
  | 102 => ⟨S_, .f32⟩
  | 103 => ⟨S8x2049x2048, .f32⟩
  | 104 => ⟨S8x2049x2048, .f32⟩
  | 105 => ⟨S8x2049x2048, .f32⟩
  | 106 => ⟨S8x2049x2048, .f32⟩
  | 107 => ⟨S8x2048x2048, .f32⟩
  | 108 => ⟨S8x2048x2048, .f32⟩
  | 109 => ⟨S8x2048x2048, .f32⟩
  | 110 => ⟨S_, .f32⟩
  | 111 => ⟨S8x2048, .f32⟩
  | 112 => ⟨S8x2048x1, .f32⟩
  | 113 => ⟨S_, .f32⟩
  | 114 => ⟨S8x2048x1, .f32⟩
  | 115 => ⟨S8x2048x1, .f32⟩
  | 116 => ⟨S_, .i32⟩
  | 117 => ⟨S_, .f32⟩
  | 118 => ⟨S8x2048, .f32⟩
  | 119 => ⟨S8x2048x1, .f32⟩
  | 120 => ⟨S_, .f32⟩
  | 121 => ⟨S8x2048x1, .f32⟩
  | 122 => ⟨S8x2048x1, .f32⟩
  | 123 => ⟨S8x2048x2048, .f32⟩
  | 124 => ⟨S8x2048x2048, .f32⟩
  | 125 => ⟨S8x2048x2048, .f32⟩
  | 126 => ⟨S_, .f32⟩
  | 127 => ⟨S_, .f32⟩
  | _ => ⟨S8x2048x1024, .f32⟩

abbrev hbmTy0_3 (i : Nat) : BufTy := match i % 128 with
  | 0 => ⟨S_, .f32⟩
  | 1 => ⟨S_, .f32⟩
  | 2 => ⟨S8x2048, .f32⟩
  | 3 => ⟨S8x2048x1, .f32⟩
  | 4 => ⟨S8x2048x1, .f32⟩
  | 5 => ⟨S8x2048x1, .f32⟩
  | 6 => ⟨S_, .f32⟩
  | 7 => ⟨S_, .i1⟩
  | 8 => ⟨S_, .f32⟩
  | 9 => ⟨S_, .f32⟩
  | 10 => ⟨S8x2048x1, .f32⟩
  | 11 => ⟨S8x2048x1, .f32⟩
  | 12 => ⟨S8x2048x2048, .f32⟩
  | 13 => ⟨S8x2048x2048, .f32⟩
  | 14 => ⟨S_, .f32⟩
  | 15 => ⟨S8x2048x1, .f32⟩
  | 16 => ⟨S8x2048x1, .f32⟩
  | 17 => ⟨S8x2048x1, .f32⟩
  | 18 => ⟨S8x2048x2048, .f32⟩
  | 19 => ⟨S8x2048x2048, .f32⟩
  | 20 => ⟨S1x1x2048, .f32⟩
  | 21 => ⟨S8x2048x2048, .f32⟩
  | 22 => ⟨S8x2048x2048, .f32⟩
  | 23 => ⟨S1x1x2048, .f32⟩
  | 24 => ⟨S8x2048x2048, .f32⟩
  | 25 => ⟨S8x2048x2048, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_v257 : Ref sig .tc := ⟨.hbm, 268, rfl⟩
abbrev main_v258 : Ref sig .tc := ⟨.hbm, 269, rfl⟩
abbrev main_v259 : Ref sig .tc := ⟨.hbm, 270, rfl⟩
abbrev main_v260 : Ref sig .tc := ⟨.hbm, 271, rfl⟩
abbrev main_v261 : Ref sig .tc := ⟨.hbm, 272, rfl⟩
abbrev main_v262 : Ref sig .tc := ⟨.hbm, 273, rfl⟩
abbrev main_v263 : Ref sig .tc := ⟨.hbm, 274, rfl⟩
abbrev main_v264 : Ref sig .tc := ⟨.hbm, 275, rfl⟩
abbrev main_v265 : Ref sig .tc := ⟨.hbm, 276, rfl⟩
abbrev main_v266 : Ref sig .tc := ⟨.hbm, 277, rfl⟩
abbrev main_v267 : Ref sig .tc := ⟨.hbm, 278, rfl⟩
abbrev main_v268 : Ref sig .tc := ⟨.hbm, 279, rfl⟩
abbrev main_v269 : Ref sig .tc := ⟨.hbm, 280, rfl⟩
abbrev main_v270 : Ref sig .tc := ⟨.hbm, 281, rfl⟩
abbrev main_v271 : Ref sig .tc := ⟨.hbm, 282, rfl⟩
abbrev main_v272 : Ref sig .tc := ⟨.hbm, 283, rfl⟩
abbrev main_v273 : Ref sig .tc := ⟨.hbm, 284, rfl⟩
abbrev main_v274 : Ref sig .tc := ⟨.hbm, 285, rfl⟩
abbrev main_v275 : Ref sig .tc := ⟨.hbm, 286, rfl⟩
abbrev main_v276 : Ref sig .tc := ⟨.hbm, 287, rfl⟩
abbrev main_v277 : Ref sig .tc := ⟨.hbm, 288, rfl⟩
abbrev main_v278 : Ref sig .tc := ⟨.hbm, 289, rfl⟩
abbrev main_v279 : Ref sig .tc := ⟨.hbm, 290, rfl⟩
abbrev main_v280 : Ref sig .tc := ⟨.hbm, 291, rfl⟩
abbrev main_v281 : Ref sig .tc := ⟨.hbm, 292, rfl⟩
abbrev main_v282 : Ref sig .tc := ⟨.hbm, 293, rfl⟩
abbrev main_v283 : Ref sig .tc := ⟨.hbm, 294, rfl⟩
abbrev main_v284 : Ref sig .tc := ⟨.hbm, 295, rfl⟩
abbrev main_v285 : Ref sig .tc := ⟨.hbm, 296, rfl⟩
abbrev main_v286 : Ref sig .tc := ⟨.hbm, 297, rfl⟩
abbrev main_v287 : Ref sig .tc := ⟨.hbm, 298, rfl⟩
abbrev main_v288 : Ref sig .tc := ⟨.hbm, 299, rfl⟩
abbrev main_v289 : Ref sig .tc := ⟨.hbm, 300, rfl⟩
abbrev main_v290 : Ref sig .tc := ⟨.hbm, 301, rfl⟩
abbrev main_v291 : Ref sig .tc := ⟨.hbm, 302, rfl⟩
abbrev main_v292 : Ref sig .tc := ⟨.hbm, 303, rfl⟩
abbrev main_v293 : Ref sig .tc := ⟨.hbm, 304, rfl⟩
abbrev main_v294 : Ref sig .tc := ⟨.hbm, 305, rfl⟩
abbrev main_v295 : Ref sig .tc := ⟨.hbm, 306, rfl⟩
abbrev main_v296 : Ref sig .tc := ⟨.hbm, 307, rfl⟩
abbrev main_v297 : Ref sig .tc := ⟨.hbm, 308, rfl⟩
abbrev main_v298 : Ref sig .tc := ⟨.hbm, 309, rfl⟩
abbrev main_v299 : Ref sig .tc := ⟨.hbm, 310, rfl⟩
abbrev main_v300 : Ref sig .tc := ⟨.hbm, 311, rfl⟩
abbrev main_v301 : Ref sig .tc := ⟨.hbm, 312, rfl⟩
abbrev main_v302 : Ref sig .tc := ⟨.hbm, 313, rfl⟩
abbrev main_v303 : Ref sig .tc := ⟨.hbm, 314, rfl⟩
abbrev main_v304 : Ref sig .tc := ⟨.hbm, 315, rfl⟩
abbrev main_v305 : Ref sig .tc := ⟨.hbm, 316, rfl⟩
abbrev main_v306 : Ref sig .tc := ⟨.hbm, 317, rfl⟩
abbrev main_v307 : Ref sig .tc := ⟨.hbm, 318, rfl⟩
abbrev main_v308 : Ref sig .tc := ⟨.hbm, 319, rfl⟩
abbrev main_v309 : Ref sig .tc := ⟨.hbm, 320, rfl⟩
abbrev main_v310 : Ref sig .tc := ⟨.hbm, 321, rfl⟩
abbrev main_call1_call0_cst : Ref sig .tc := ⟨.hbm, 322, rfl⟩
abbrev main_call1_call0_v0 : Ref sig .tc := ⟨.hbm, 323, rfl⟩
abbrev main_v311 : Ref sig .tc := ⟨.hbm, 324, rfl⟩
abbrev main_cst_1 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_c_2 : Ref sig .tc := ⟨.hbm, 331, rfl⟩
abbrev main_call2_v0 : Ref sig .tc := ⟨.hbm, 332, rfl⟩
abbrev main_v317 : Ref sig .tc := ⟨.hbm, 333, rfl⟩
abbrev main_v318 : Ref sig .tc := ⟨.hbm, 334, rfl⟩
abbrev main_v319 : Ref sig .tc := ⟨.hbm, 335, rfl⟩
abbrev main_v320 : Ref sig .tc := ⟨.hbm, 336, rfl⟩
abbrev main_v321 : Ref sig .tc := ⟨.hbm, 337, rfl⟩
abbrev main_v322 : Ref sig .tc := ⟨.hbm, 338, rfl⟩
abbrev main_v323 : Ref sig .tc := ⟨.hbm, 339, rfl⟩
abbrev main_v324 : Ref sig .tc := ⟨.hbm, 340, rfl⟩
abbrev main_v325 : Ref sig .tc := ⟨.hbm, 341, rfl⟩
abbrev main_v326 : Ref sig .tc := ⟨.hbm, 342, rfl⟩
abbrev main_v327 : Ref sig .tc := ⟨.hbm, 343, rfl⟩
abbrev main_v328 : Ref sig .tc := ⟨.hbm, 344, rfl⟩
abbrev main_v329 : Ref sig .tc := ⟨.hbm, 345, rfl⟩
abbrev main_v330 : Ref sig .tc := ⟨.hbm, 346, rfl⟩
abbrev main_v331 : Ref sig .tc := ⟨.hbm, 347, rfl⟩
abbrev main_v332 : Ref sig .tc := ⟨.hbm, 348, rfl⟩
abbrev main_v333 : Ref sig .tc := ⟨.hbm, 349, rfl⟩
abbrev main_v334 : Ref sig .tc := ⟨.hbm, 350, rfl⟩
abbrev main_v335 : Ref sig .tc := ⟨.hbm, 351, rfl⟩
abbrev main_v336 : Ref sig .tc := ⟨.hbm, 352, rfl⟩
abbrev main_v337 : Ref sig .tc := ⟨.hbm, 353, rfl⟩
abbrev main_v338 : Ref sig .tc := ⟨.hbm, 354, rfl⟩
abbrev main_v339 : Ref sig .tc := ⟨.hbm, 355, rfl⟩
abbrev main_v340 : Ref sig .tc := ⟨.hbm, 356, rfl⟩
abbrev main_v341 : Ref sig .tc := ⟨.hbm, 357, rfl⟩
abbrev main_v342 : Ref sig .tc := ⟨.hbm, 358, rfl⟩
abbrev main_v343 : Ref sig .tc := ⟨.hbm, 359, rfl⟩
abbrev main_v344 : Ref sig .tc := ⟨.hbm, 360, rfl⟩
abbrev main_v345 : Ref sig .tc := ⟨.hbm, 361, rfl⟩
abbrev main_v346 : Ref sig .tc := ⟨.hbm, 362, rfl⟩
abbrev main_v347 : Ref sig .tc := ⟨.hbm, 363, rfl⟩
abbrev main_v348 : Ref sig .tc := ⟨.hbm, 364, rfl⟩
abbrev main_v349 : Ref sig .tc := ⟨.hbm, 365, rfl⟩
abbrev main_cst_3 : Ref sig .tc := ⟨.hbm, 366, rfl⟩
abbrev main_v350 : Ref sig .tc := ⟨.hbm, 367, rfl⟩
abbrev main_v351 : Ref sig .tc := ⟨.hbm, 368, rfl⟩
abbrev main_cst_4 : Ref sig .tc := ⟨.hbm, 369, rfl⟩
abbrev main_v352 : Ref sig .tc := ⟨.hbm, 370, rfl⟩
abbrev main_v353 : Ref sig .tc := ⟨.hbm, 371, rfl⟩
abbrev main_c_5 : Ref sig .tc := ⟨.hbm, 372, rfl⟩
abbrev main_call3_cst : Ref sig .tc := ⟨.hbm, 373, rfl⟩
abbrev main_call3_v0 : Ref sig .tc := ⟨.hbm, 374, rfl⟩
abbrev main_call3_v1 : Ref sig .tc := ⟨.hbm, 375, rfl⟩
abbrev main_call3_cst_0 : Ref sig .tc := ⟨.hbm, 376, rfl⟩
abbrev main_call3_v2 : Ref sig .tc := ⟨.hbm, 377, rfl⟩
abbrev main_call3_v3 : Ref sig .tc := ⟨.hbm, 378, rfl⟩
abbrev main_call3_v4 : Ref sig .tc := ⟨.hbm, 379, rfl⟩
abbrev main_call3_v5 : Ref sig .tc := ⟨.hbm, 380, rfl⟩
abbrev main_call3_v6 : Ref sig .tc := ⟨.hbm, 381, rfl⟩
abbrev main_call3_v7 : Ref sig .tc := ⟨.hbm, 382, rfl⟩
abbrev main_call3_cst_1 : Ref sig .tc := ⟨.hbm, 383, rfl⟩
abbrev main_call3_v8 : Ref sig .tc := ⟨.hbm, 384, rfl⟩
abbrev main_call3_cst_2 : Ref sig .tc := ⟨.hbm, 385, rfl⟩
abbrev main_call3_v9 : Ref sig .tc := ⟨.hbm, 386, rfl⟩
abbrev main_call3_v10 : Ref sig .tc := ⟨.hbm, 387, rfl⟩
abbrev main_call3_v11 : Ref sig .tc := ⟨.hbm, 388, rfl⟩
abbrev main_call3_v12 : Ref sig .tc := ⟨.hbm, 389, rfl⟩
abbrev main_call3_cst_3 : Ref sig .tc := ⟨.hbm, 390, rfl⟩
abbrev main_call3_v13 : Ref sig .tc := ⟨.hbm, 391, rfl⟩
abbrev main_call3_cst_4 : Ref sig .tc := ⟨.hbm, 392, rfl⟩
abbrev main_call3_call0_v0 : Ref sig .tc := ⟨.hbm, 393, rfl⟩
abbrev main_call3_call0_v1 : Ref sig .tc := ⟨.hbm, 394, rfl⟩
abbrev main_v354 : Ref sig .tc := ⟨.hbm, 395, rfl⟩
abbrev main_v355 : Ref sig .tc := ⟨.hbm, 396, rfl⟩
abbrev main_v356 : Ref sig .tc := ⟨.hbm, 397, rfl⟩
abbrev main_cst_6 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_v360 : Ref sig .tc := ⟨.hbm, 402, rfl⟩
abbrev main_v361 : Ref sig .tc := ⟨.hbm, 403, rfl⟩
abbrev main_v362 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩

abbrev nD : Nat := 1
abbrev τ : Topo := Topo.v7x

variable {F : FTy → Type} [FloatOps F]
-- ==== Proof.RefTaps.lean ====
/- The reference's two convolutions as chains of taps, and what each stage of the reference reads at an index. -/
module

public import proofs.«01_k».proof.Proof.Gen.ReferenceIdeal.Read
public import Idealize.ShloMosaic.Lib.Pointwise

@[expose] public section

set_option maxRecDepth 16384

noncomputable section

namespace Cert.ReferenceIdeal.Taps

open Cert.ReferenceIdeal Cert.ReferenceIdeal.Gen Cert.ReferenceIdeal.Facts Cert.ReferenceIdeal.Read
open Idealize.ShloMosaic Idealize.ShloMosaic.TcCoe Idealize.ShloMosaic.Tactic
open Idealize.SL.Sem

section Generic

variable {F : FTy → Type} [FloatOps F]

theorem sliceW50 (j : ℕ) : S50.Slices ![j % 50] S1 :=
  ⟨rfl, fun a => by match a with | ⟨0, _⟩ => show j % 50 + 1 ≤ 50; omega⟩
theorem sliceW5 (j : ℕ) : S5.Slices ![j % 5] S1 :=
  ⟨rfl, fun a => by match a with | ⟨0, _⟩ => show j % 5 + 1 ≤ 5; omega⟩
theorem sliceH50 (j : ℕ) : S8x2098x2048.Slices ![0, j % 50, 0] S8x2049x2048 :=
  ⟨rfl, fun a => by
    match a with
    | ⟨0, _⟩ => show 0 + 8 ≤ 8; omega
    | ⟨1, _⟩ => show j % 50 + 2049 ≤ 2098; omega
    | ⟨2, _⟩ => show 0 + 2048 ≤ 2048; omega⟩
theorem sliceH5 (j : ℕ) : S8x2053x2048.Slices ![0, j % 5, 0] S8x2049x2048 :=
  ⟨rfl, fun a => by
    match a with
    | ⟨0, _⟩ => show 0 + 8 ≤ 8; omega
    | ⟨1, _⟩ => show j % 5 + 2049 ≤ 2053; omega
    | ⟨2, _⟩ => show 0 + 2048 ≤ 2048; omega⟩

/-- One past tap: weight `j` times the padded rows shifted by `j`. -/
def memTap (w : FVec F S50 .f32) (hp : FVec F S8x2098x2048 .f32) (j : ℕ) : FVec F S8x2049x2048 .f32 :=
  mulf (broadcastInDim S8x2049x2048 ![] bcast_S_S8x2049x2048 (shapeCast S_ (extractStridedSlice S1 ![j % 50] w (sliceW50 j)) shapeCasts_S1_S_))
    (extractStridedSlice S8x2049x2048 ![0, j % 50, 0] hp (sliceH50 j))

/-- One future tap: weight `j` times the padded rows shifted by `j`. -/
def laTap (w : FVec F S5 .f32) (hp : FVec F S8x2053x2048 .f32) (j : ℕ) : FVec F S8x2049x2048 .f32 :=
  mulf (broadcastInDim S8x2049x2048 ![] bcast_S_S8x2049x2048 (shapeCast S_ (extractStridedSlice S1 ![j % 5] w (sliceW5 j)) shapeCasts_S1_S_))
    (extractStridedSlice S8x2049x2048 ![0, j % 5, 0] hp (sliceH5 j))

/-- The sum of the taps `0 … n`, added one after the other. -/
def chain (tap : ℕ → FVec F S8x2049x2048 .f32) : ℕ → FVec F S8x2049x2048 .f32
  | 0 => tap 0
  | n + 1 => addf (chain tap n) (tap (n + 1))

variable (x0 : FVec F S8x2048x1024 .f32) (x1 : FVec F S2048x1024 .f32) (x2 : FVec F S2048 .f32)
  (x3 : FVec F S50x2048 .f32) (x4 : FVec F S5x2048 .f32)

/-- The reference's past convolution is the chain of its fifty taps. -/
theorem mem_chain : val_main_v305 (F := F) x0 x1 x2 x3 = chain (memTap (val_main_v4 (F := F) x3) (val_main_v6 (F := F) x0 x1 x2)) 49 := rfl

/-- The reference's future convolution is the chain of its five taps. -/
theorem la_chain : val_main_v346 (F := F) x0 x1 x2 x4 = chain (laTap (val_main_v5 (F := F) x4) (val_main_v317 (F := F) x0 x1 x2)) 4 := rfl

end Generic

/-! ## The stages at an index, over the extended reals -/

/-- A chain of taps at an index is the sum of the taps there. -/
theorem chain_apply (tap : ℕ → FVec Ideal S8x2049x2048 .f32) (n : ℕ) (i : S8x2049x2048.Idx) :
    (chain tap n i : EReal) = ∑ j ∈ Finset.range (n + 1), (tap j i : EReal) := by
  induction n with
  | zero => rw [Finset.sum_range_one]; rfl
  | succ n ih => rw [Finset.sum_range_succ, ← ih]; rfl

theorem memTap_apply (w : FVec Ideal S50 .f32) (hp : FVec Ideal S8x2098x2048 .f32) (j : ℕ) (n : Fin 8) (l : Fin 2049) (o : Fin 2048) :
    (memTap w hp j (ix3 n l o) : EReal) = w (ix1 ⟨j % 50, by omega⟩) * hp (ix3 n ⟨j % 50 + l.val, by omega⟩ o) := by
  pointwise! [memTap]

theorem laTap_apply (w : FVec Ideal S5 .f32) (hp : FVec Ideal S8x2053x2048 .f32) (j : ℕ) (n : Fin 8) (l : Fin 2049) (o : Fin 2048) :
    (laTap w hp j (ix3 n l o) : EReal) = w (ix1 ⟨j % 5, by omega⟩) * hp (ix3 n ⟨j % 5 + l.val, by omega⟩ o) := by
  pointwise! [laTap]

/-- `jnp.cumsum` along the middle axis of a `[8, 50, 2048]` array: row `r` is the sum of the rows up to `r`. -/
theorem cumsum_apply (x : FVec Ideal S8x50x2048 .f32) (z : FVec Ideal S_ .f32) (hz : (z ix0 : EReal) = 0)
    (f : ℕ → EReal) (n : Fin 8) (r : Fin 50) (o : Fin 2048) (hf : ∀ k : Fin 50, (x (ix3 n k o) : EReal) = f k.val) :
    (Host.reduceWindowAdd ![1, 50, 1] ![1, 1, 1] ![0, 49, 0] ![0, 0, 0] x z
        reduceWindows_S8x50x2048_S8x50x2048_w1s1p0_0_w50s1p49_0_w1s1p0_0 h_S_ (ix3 n r o) : EReal)
      = ∑ k ∈ Finset.range (r.val + 1), f k := by
  have hv : (z (Shape.Idx.first h_S_) : EReal) = 0 := (congrArg z (funext fun a => a.elim0)).trans hz
  let W : Shape := ⟨3, ![1, 50, 1]⟩
  let g : W.Idx → EReal := fun q => if 49 ≤ r.val + (q 1).val then f (r.val + (q 1).val - 49) else 0
  have fold : ∀ (L : List (Fin W.numel)) (a : EReal), L.foldl (fun s m => s + g (W.rowMajor.symm m)) a = a + (L.map fun m => g (W.rowMajor.symm m)).sum := by
    intro L
    induction L with
    | nil => intro a; simp
    | cons b L ih => intro a; rw [List.foldl_cons, ih, List.map_cons, List.sum_cons, add_assoc]
  have e1 : (Host.reduceWindowAdd ![1, 50, 1] ![1, 1, 1] ![0, 49, 0] ![0, 0, 0] x z
        reduceWindows_S8x50x2048_S8x50x2048_w1s1p0_0_w50s1p49_0_w1s1p0_0 h_S_ (ix3 n r o) : EReal)
      = (List.finRange W.numel).foldl (fun s m => s + g (W.rowMajor.symm m)) (z (Shape.Idx.first h_S_) : EReal) := by
    unfold Host.reduceWindowAdd
    rw [Ideal.hostReduceWindowAdd_def]
    unfold Ideal.hostReduceWindowAdd Host.reduceWindow
    refine List.foldl_ext _ _ _ fun s m _ => congrArg (fun y : EReal => s + y) ?_
    let q : W.Idx := W.rowMajor.symm m
    have q0 : (q 0).val = 0 := by have : (q 0).val < 1 := (q 0).isLt; omega
    have q1 : (q 1).val < 50 := (q 1).isLt
    have q2 : (q 2).val = 0 := by have : (q 2).val < 1 := (q 2).isLt; omega
    have hr := r.isLt
    show _ = if 49 ≤ r.val + (q 1).val then f (r.val + (q 1).val - 49) else 0
    split
    · next hin =>
      have h1 : 49 ≤ r.val * 1 + (q 1).val := (hin 1).1
      rw [if_pos (by omega)]
      refine Eq.trans (congrArg x ?_) (hf ⟨r.val + (q 1).val - 49, by omega⟩)
      funext a
      refine Fin.ext ?_
      match a with
      | ⟨0, _⟩ => show n.val * 1 + (q 0).val - 0 = n.val; omega
      | ⟨1, _⟩ => show r.val * 1 + (q 1).val - 49 = r.val + (q 1).val - 49; omega
      | ⟨2, _⟩ => show o.val * 1 + (q 2).val - 0 = o.val; omega
    · next hin =>
      rw [if_neg fun hle => hin fun a => by
        match a with
        | ⟨0, _⟩ => show 0 ≤ n.val * 1 + (q 0).val ∧ n.val * 1 + (q 0).val - 0 < 8; omega
        | ⟨1, _⟩ => show 49 ≤ r.val * 1 + (q 1).val ∧ r.val * 1 + (q 1).val - 49 < 50; omega
        | ⟨2, _⟩ => show 0 ≤ o.val * 1 + (q 2).val ∧ o.val * 1 + (q 2).val - 0 < 2048; omega]
      exact hv
  rw [e1, fold, hv, zero_add, ← Fin.sum_univ_def (fun m => g (W.rowMajor.symm m)), Equiv.sum_comp W.rowMajor.symm g, sum_idx3]
  simp only [Fin.sum_univ_one, Finset.univ_unique, Finset.sum_singleton]
  show (∑ b : Fin 50, if 49 ≤ r.val + b.val then f (r.val + b.val - 49) else 0) = _
  rw [Fin.sum_univ_eq_sum_range (fun b => if 49 ≤ r.val + b then f (r.val + b - 49) else 0) 50]
  have hr := r.isLt
  rw [← Finset.sum_range_add_sum_Ico (fun b => if 49 ≤ r.val + b then f (r.val + b - 49) else 0) (show 49 - r.val ≤ 50 by omega),
    Finset.sum_eq_zero (fun b hb => if_neg (by have := Finset.mem_range.1 hb; omega)), zero_add, Finset.sum_Ico_eq_sum_range,
    show 50 - (49 - r.val) = r.val + 1 by omega]
  refine Finset.sum_congr rfl fun k hk => ?_
  rw [if_pos (by omega), show r.val + (49 - r.val + k) - 49 = k by omega]

end Cert.ReferenceIdeal.Taps

end
-- ==== Proof.BodyIdeal.lean ====
/- What one run of the kernel's body does to its buffers: at the first grid point, where the band matrices are built,
   and at every later one, where they are read. -/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The grid point is the first one: the band matrices are built. -/
abbrev first (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- At the first point sub-block 0 reads the second band matrix. -/
theorem off_head {i : grid0.Coords} (h : first i) : k0_off1 i 0#32 1#32 = ![1, 0, 0] := by
  revert h; revert i; decide +kernel

/-- At the first point sub-block 3 reads the first band matrix. -/
theorem off_tail {i : grid0.Coords} (h : first i) : k0_off1 i 1#32 2#32 = ![0, 0, 0] := by
  revert h; revert i; decide +kernel

variable (c : Dev nD) (i : grid0.Coords)
  (arg2 : Memref sig .tc .vmem S50x2048 .f32) (harg2 : arg2.IsWhole)
  (arg3 : Memref sig .tc .vmem S5x2048 .f32) (harg3 : arg3.IsWhole)
  (arg4 : Memref sig .tc .vmem S1x64x1024 .f32) (harg4 : arg4.IsWhole)
  (arg5 : Memref sig .tc .vmem S1x1024x1024 .f32) (harg5 : arg5.IsWhole)
  (arg6 : Memref sig .tc .vmem S1x8x1024 .f32) (harg6 : arg6.IsWhole)
  (arg7 : Memref sig .tc .vmem S2048x1024 .bf16) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S1x1024x2048 .f32) (harg11 : arg11.IsWhole)
  (arg12 : Memref sig .tc .vmem S3x256x328 .bf16) (harg12 : arg12.IsWhole)
  (arg13 : Memref sig .tc .vmem S2x256x1024 .bf16) (harg13 : arg13.IsWhole)
  (arg14 : Memref sig .tc .vmem S2x256x2048 .f32) (harg14 : arg14.IsWhole)
  (x0 : Vec F S50x2048 .f32) (x1 : Vec F S5x2048 .f32) (x2 : Vec F S1x64x1024 .f32)
  (x3 : Vec F S1x1024x1024 .f32) (x4 : Vec F S1x8x1024 .f32) (x5 : Vec F S2048x1024 .bf16)
  (x6 : Vec F S1x2048 .f32) (x7 : Vec F S1x2048 .f32) (x8 : Vec F S1x2048 .f32)

set_option maxHeartbeats 4000000 in
/-- The body at the first point, from inputs `x0`, …, `x8`: it stores the pieces `LB` into the band scratch and the pieces
    `L` into the output block, and leaves the inputs as they were. -/
def firstRun (hc : first i) :
    Σ' (LB : List (View.Piece (Elt F) S3x256x328 .bf16)), { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread
          nD τ) arg4 fullShare x2 ∗ owns (c : Thread nD τ) arg5 fullShare x3 ∗ owns (c : Thread nD τ) arg6
          fullShare x4 ∗ owns (c : Thread nD τ) arg7 fullShare x5 ∗ owns (c : Thread nD τ) arg8 fullShare x6 ∗
          owns (c : Thread nD τ) arg9 fullShare x7 ∗ owns (c : Thread nD τ) arg10 fullShare x8 ∗ (∃ d, owns (c
          : Thread nD τ) arg11 fullShare d) ∗ (∃ d, owns (c : Thread nD τ) arg12 fullShare d) ∗ (∃ d, owns (c
          : Thread nD τ) arg13 fullShare d) ∗ (∃ d, owns (c : Thread nD τ) arg14 fullShare d)
          ∗ (iprop(owns (c : Thread nD τ) arg2 fullShare x0 ∗ owns (c : Thread nD τ) arg3 fullShare x1 ∗ owns (c : Thread
            nD τ) arg4 fullShare x2 ∗ owns (c : Thread nD τ) arg5 fullShare x3 ∗ owns (c : Thread nD τ) arg6
            fullShare x4 ∗ owns (c : Thread nD τ) arg7 fullShare x5 ∗ owns (c : Thread nD τ) arg8 fullShare x6
            ∗ owns (c : Thread nD τ) arg9 fullShare x7 ∗ owns (c : Thread nD τ) arg10 fullShare x8 ∗ (∃ f,
            arg11.view.loc (c : Thread nD τ) ↦[arg11.view.set]{fullShare} arg11.view.writes (Elt F) f L) ∗ (∃
            f, arg12.view.loc (c : Thread nD τ) ↦[arg12.view.set]{fullShare} arg12.view.writes (Elt F) f LB) ∗
            (∃ d, owns (c : Thread nD τ) arg13 fullShare d) ∗ (∃ d, owns (c : Thread nD τ) arg14 fullShare d))
            -∗ K ⟨⟩))
        ⊢ wp frame (wpE (defs₀ (F := F)) Variants.none c none) E
            (cc0_dfsmn_fused i arg2 harg2 arg3 harg3 arg4 harg4 arg5 harg5 arg6 harg6 arg7 harg7 arg8 harg8 arg9 harg9
              arg10 harg10 arg11 harg11 arg12 harg12 arg13 harg13 arg14 harg14) K } := by
  refine ⟨?_, ?_, fun E K => ?run⟩
  case run =>
    simp only [cc0_dfsmn_fused_eq_skeleton]; unfold cc0_dfsmn_fused_skel
    simp only [k0_part57_eq_skeleton, k0_part56_eq_skeleton, k0_part55_eq_skeleton, k0_part54_eq_skeleton, k0_part53_eq_skeleton,
      k0_part52_eq_skeleton, k0_part51_eq_skeleton, k0_part50_eq_skeleton, k0_part49_eq_skeleton,
      k0_part48_eq_skeleton, k0_part47_eq_skeleton, k0_part46_eq_skeleton, k0_part45_eq_skeleton,
      k0_part44_eq_skeleton, k0_part43_eq_skeleton, k0_part42_eq_skeleton, k0_part41_eq_skeleton,
      k0_part40_eq_skeleton, k0_part39_eq_skeleton, k0_part38_eq_skeleton, k0_part37_eq_skeleton,
      k0_part36_eq_skeleton, k0_part35_eq_skeleton, k0_part34_eq_skeleton, k0_part33_eq_skeleton,
      k0_part32_eq_skeleton, k0_part31_eq_skeleton, k0_part30_eq_skeleton, k0_part29_eq_skeleton,
      k0_part28_eq_skeleton, k0_part27_eq_skeleton, k0_part26_eq_skeleton, k0_part25_eq_skeleton,
      k0_part24_eq_skeleton, k0_part23_eq_skeleton, k0_part22_eq_skeleton, k0_part21_eq_skeleton,
      k0_part20_eq_skeleton, k0_part19_eq_skeleton, k0_part18_eq_skeleton, k0_part17_eq_skeleton,
      k0_part16_eq_skeleton, k0_part15_eq_skeleton, k0_part14_eq_skeleton, k0_part13_eq_skeleton,
      k0_part12_eq_skeleton, k0_part11_eq_skeleton, k0_part10_eq_skeleton, k0_part9_eq_skeleton,
      k0_part8_eq_skeleton, k0_part7_eq_skeleton, k0_part6_eq_skeleton, k0_part5_eq_skeleton,
      k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
      %hf6, H6⟩, ⟨%f7, %hf7, H7⟩, ⟨%f8, %hf8, H8⟩, ⟨%d9, %f9, -, H9⟩, ⟨%ds0, %fs0, -, HS0⟩, ⟨%ds1, %fs1, -,
      HS1⟩, ⟨%ds2, %fs2, -, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    letI : ClosedOff (k0_off1 i 0#32 1#32) := ⟨![1, 0, 0], off_head hc⟩
    letI : ClosedOff (k0_off1 i 1#32 2#32) := ⟨![0, 0, 0], off_tail hc⟩
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]
    · iexists _; iexists _; isplitr
      swap; · iexact HS1
      ipureintro; rfl
    iexists _; iexists _; isplitr
    swap; · iexact HS2
    ipureintro; rfl

set_option maxHeartbeats 4000000 in
/-- The body at a later point, from inputs `x0`, …, `x8` and a band scratch that holds `xs`: it stores the pieces `L` into
    the output block, and leaves the inputs and the band scratch as they were. -/
def laterRun (hc : ¬first i) (xs : Vec F S3x256x328 .bf16) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread
          nD τ) arg4 fullShare x2 ∗ owns (c : Thread nD τ) arg5 fullShare x3 ∗ owns (c : Thread nD τ) arg6
          fullShare x4 ∗ owns (c : Thread nD τ) arg7 fullShare x5 ∗ owns (c : Thread nD τ) arg8 fullShare x6 ∗
          owns (c : Thread nD τ) arg9 fullShare x7 ∗ owns (c : Thread nD τ) arg10 fullShare x8 ∗ (∃ d, owns (c
          : Thread nD τ) arg11 fullShare d) ∗ owns (c : Thread nD τ) arg12 fullShare xs ∗ (∃ d, owns (c :
          Thread nD τ) arg13 fullShare d) ∗ (∃ d, owns (c : Thread nD τ) arg14 fullShare d)
          ∗ (iprop(owns (c : Thread nD τ) arg2 fullShare x0 ∗ owns (c : Thread nD τ) arg3 fullShare x1 ∗ owns (c : Thread
            nD τ) arg4 fullShare x2 ∗ owns (c : Thread nD τ) arg5 fullShare x3 ∗ owns (c : Thread nD τ) arg6
            fullShare x4 ∗ owns (c : Thread nD τ) arg7 fullShare x5 ∗ owns (c : Thread nD τ) arg8 fullShare x6
            ∗ owns (c : Thread nD τ) arg9 fullShare x7 ∗ owns (c : Thread nD τ) arg10 fullShare x8 ∗ (∃ f,
            arg11.view.loc (c : Thread nD τ) ↦[arg11.view.set]{fullShare} arg11.view.writes (Elt F) f L) ∗
            owns (c : Thread nD τ) arg12 fullShare xs ∗ (∃ d, owns (c : Thread nD τ) arg13 fullShare d) ∗ (∃
            d, owns (c : Thread nD τ) arg14 fullShare d)) -∗ K ⟨⟩))
        ⊢ wp frame (wpE (defs₀ (F := F)) Variants.none c none) E
            (cc0_dfsmn_fused i arg2 harg2 arg3 harg3 arg4 harg4 arg5 harg5 arg6 harg6 arg7 harg7 arg8 harg8 arg9 harg9
              arg10 harg10 arg11 harg11 arg12 harg12 arg13 harg13 arg14 harg14) K } := by
  refine ⟨?_, fun E K => ?run⟩
  case run =>
    simp only [cc0_dfsmn_fused_eq_skeleton]; unfold cc0_dfsmn_fused_skel
    simp only [k0_part57_eq_skeleton, k0_part56_eq_skeleton, k0_part55_eq_skeleton, k0_part54_eq_skeleton, k0_part53_eq_skeleton,
      k0_part52_eq_skeleton, k0_part51_eq_skeleton, k0_part50_eq_skeleton, k0_part49_eq_skeleton,
      k0_part48_eq_skeleton, k0_part47_eq_skeleton, k0_part46_eq_skeleton, k0_part45_eq_skeleton,
      k0_part44_eq_skeleton, k0_part43_eq_skeleton, k0_part42_eq_skeleton, k0_part41_eq_skeleton,
      k0_part40_eq_skeleton, k0_part39_eq_skeleton, k0_part38_eq_skeleton, k0_part37_eq_skeleton,
      k0_part36_eq_skeleton, k0_part35_eq_skeleton, k0_part34_eq_skeleton, k0_part33_eq_skeleton,
      k0_part32_eq_skeleton, k0_part31_eq_skeleton, k0_part30_eq_skeleton, k0_part29_eq_skeleton,
      k0_part28_eq_skeleton, k0_part27_eq_skeleton, k0_part26_eq_skeleton, k0_part25_eq_skeleton,
      k0_part24_eq_skeleton, k0_part23_eq_skeleton, k0_part22_eq_skeleton, k0_part21_eq_skeleton,
      k0_part20_eq_skeleton, k0_part19_eq_skeleton, k0_part18_eq_skeleton, k0_part17_eq_skeleton,
      k0_part16_eq_skeleton, k0_part15_eq_skeleton, k0_part14_eq_skeleton, k0_part13_eq_skeleton,
      k0_part12_eq_skeleton, k0_part11_eq_skeleton, k0_part10_eq_skeleton, k0_part9_eq_skeleton,
      k0_part8_eq_skeleton, k0_part7_eq_skeleton, k0_part6_eq_skeleton, k0_part5_eq_skeleton,
      k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
      %hf6, H6⟩, ⟨%f7, %hf7, H7⟩, ⟨%f8, %hf8, H8⟩, ⟨%d9, %f9, -, H9⟩, ⟨%fs0, %hfs0, HS0⟩, ⟨%ds1, %fs1, -,
      HS1⟩, ⟨%ds2, %fs2, -, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg12.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]
    · iexists _; iexists _; isplitr
      swap; · iexact HS1
      ipureintro; rfl
    iexists _; iexists _; isplitr
    swap; · iexact HS2
    ipureintro; rfl

end Cert.KernelIdeal.Body

end
-- ==== Proof.FrameIdeal.lean ====
/- The kernel's launch: what every buffer holds at each grid point, the body's obligation there, the run of the
   whole program, and the frame. -/
module

public import proofs.«01_k».proof.Proof.BodyIdeal
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Pieces

variable (c : Dev nD) (i : grid0.Coords)
  (arg2 : Memref sig .tc .vmem S50x2048 .f32) (harg2 : arg2.IsWhole)
  (arg3 : Memref sig .tc .vmem S5x2048 .f32) (harg3 : arg3.IsWhole)
  (arg4 : Memref sig .tc .vmem S1x64x1024 .f32) (harg4 : arg4.IsWhole)
  (arg5 : Memref sig .tc .vmem S1x1024x1024 .f32) (harg5 : arg5.IsWhole)
  (arg6 : Memref sig .tc .vmem S1x8x1024 .f32) (harg6 : arg6.IsWhole)
  (arg7 : Memref sig .tc .vmem S2048x1024 .bf16) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S1x1024x2048 .f32) (harg11 : arg11.IsWhole)
  (arg12 : Memref sig .tc .vmem S3x256x328 .bf16) (harg12 : arg12.IsWhole)
  (arg13 : Memref sig .tc .vmem S2x256x1024 .bf16) (harg13 : arg13.IsWhole)
  (arg14 : Memref sig .tc .vmem S2x256x2048 .f32) (harg14 : arg14.IsWhole)
  (x0 : Vec F S50x2048 .f32) (x1 : Vec F S5x2048 .f32) (x2 : Vec F S1x64x1024 .f32)
  (x3 : Vec F S1x1024x1024 .f32) (x4 : Vec F S1x8x1024 .f32) (x5 : Vec F S2048x1024 .bf16)
  (x6 : Vec F S1x2048 .f32) (x7 : Vec F S1x2048 .f32) (x8 : Vec F S1x2048 .f32)

/-- The 32 chunks stored at the first point cover the output block. -/
theorem firstRun_cover (hc : first i) (y : S1x1024x2048.Idx) :
    ∃ pc ∈ (firstRun c i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 hc).2.1, y ∈ pc.1.set :=
  View.cover_of_tiledL (firstRun c i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 hc).2.1 S1x32x2048.size (by sl_kernel_rfl) y

/-- The three band matrices stored at the first point cover the band scratch. -/
theorem firstRun_bandCover (hc : first i) (y : S3x256x328.Idx) :
    ∃ pc ∈ (firstRun c i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 hc).1, y ∈ pc.1.set :=
  View.cover_of_tiledL (firstRun c i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 hc).1 S1x256x328.size (by sl_kernel_rfl) y

/-- The 32 chunks stored at a later point cover the output block. -/
theorem laterRun_cover (hc : ¬first i) (xs : Vec F S3x256x328 .bf16) (y : S1x1024x2048.Idx) :
    ∃ pc ∈ (laterRun c i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 hc xs).1, y ∈ pc.1.set :=
  View.cover_of_tiledL (laterRun c i arg2 harg2 arg3 harg3 arg4 harg4 arg5 harg5 arg6 harg6 arg7 harg7 arg8 harg8 arg9 harg9 arg10
      harg10 arg11 harg11 arg12 harg12 arg13 harg13 arg14 harg14 x0 x1 x2 x3 x4 x5 x6 x7 x8 hc xs).1 S1x32x2048.size (by sl_kernel_rfl) y

end Pieces

/-- Only grid point 0 is the first. -/
theorem first_iff (t : Fin cfg0.N) : first (grid0.coords t) ↔ t.val = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [first, e0, e1]
    have key : (Scalar.cmpi .ne (Scalar.extui (Scalar.andi (Scalar.cmpi .eq (BitVec.ofNat 32 (t.val / 2 % 8)) 0#32)
      (Scalar.cmpi .eq (BitVec.ofNat 32 (t.val / 1 % 2)) 0#32))) 0#32) = 1#1 ↔ t.val % 16 = 0 := by word_cmp
    rw [key]; omega : ∀ t : Fin grid0.N, first (grid0.coords t) ↔ t.val = 0) t

/-! ## The buffers at a grid point -/

/-- Window 0's staging buffer at point `t`. -/
abbrev ms0 (t : Fin cfg0.N) : Memref sig .tc .vmem S50x2048 .f32 := win0_0.stage (cfg0.slots t 0)
abbrev hs0 (t : Fin cfg0.N) : (ms0 t).IsWhole := hstage0_0 ((cfg0.slots t 0).cast nbuf0_0)
/-- Window 1's staging buffer at point `t`. -/
abbrev ms1 (t : Fin cfg0.N) : Memref sig .tc .vmem S5x2048 .f32 := win0_1.stage (cfg0.slots t 1)
abbrev hs1 (t : Fin cfg0.N) : (ms1 t).IsWhole := hstage0_1 ((cfg0.slots t 1).cast nbuf0_1)
/-- Window 2's staging buffer at point `t`. -/
abbrev ms2 (t : Fin cfg0.N) : Memref sig .tc .vmem S1x64x1024 .f32 := win0_2.stage (cfg0.slots t 2)
abbrev hs2 (t : Fin cfg0.N) : (ms2 t).IsWhole := hstage0_2 ((cfg0.slots t 2).cast nbuf0_2)
/-- Window 3's staging buffer at point `t`. -/
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
/-- Window 4's staging buffer at point `t`. -/
abbrev ms4 (t : Fin cfg0.N) : Memref sig .tc .vmem S1x8x1024 .f32 := win0_4.stage (cfg0.slots t 4)
abbrev hs4 (t : Fin cfg0.N) : (ms4 t).IsWhole := hstage0_4 ((cfg0.slots t 4).cast nbuf0_4)
/-- Window 5's staging buffer at point `t`. -/
abbrev ms5 (t : Fin cfg0.N) : Memref sig .tc .vmem S2048x1024 .bf16 := win0_5.stage (cfg0.slots t 5)
abbrev hs5 (t : Fin cfg0.N) : (ms5 t).IsWhole := hstage0_5 ((cfg0.slots t 5).cast nbuf0_5)
/-- Window 6's staging buffer at point `t`. -/
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
/-- Window 7's staging buffer at point `t`. -/
abbrev ms7 (t : Fin cfg0.N) : Memref sig .tc .vmem S1x2048 .f32 := win0_7.stage (cfg0.slots t 7)
abbrev hs7 (t : Fin cfg0.N) : (ms7 t).IsWhole := hstage0_7 ((cfg0.slots t 7).cast nbuf0_7)
/-- Window 8's staging buffer at point `t`. -/
abbrev ms8 (t : Fin cfg0.N) : Memref sig .tc .vmem S1x2048 .f32 := win0_8.stage (cfg0.slots t 8)
abbrev hs8 (t : Fin cfg0.N) : (ms8 t).IsWhole := hstage0_8 ((cfg0.slots t 8).cast nbuf0_8)
/-- Window 9's staging buffer at point `t`. -/
abbrev ms9 (t : Fin cfg0.N) : Memref sig .tc .vmem S1x1024x2048 .f32 := win0_9.stage (cfg0.slots t 9)
abbrev hs9 (t : Fin cfg0.N) : (ms9 t).IsWhole := hstage0_9 ((cfg0.slots t 9).cast nbuf0_9)
/-- The three scratch buffers: the band matrices, the mixed rows, the projected rows. -/
abbrev sc0 : Memref sig .tc .vmem S3x256x328 .bf16 := Memref.whole cc0_scratch0
abbrev sc1 : Memref sig .tc .vmem S2x256x1024 .bf16 := Memref.whole cc0_scratch1
abbrev sc2 : Memref sig .tc .vmem S2x256x2048 .f32 := Memref.whole cc0_scratch2
/-- The views through which the contents are stated. -/
abbrev VB : View sig .tc .vmem S3x256x328 .bf16 := sc0.view
abbrev VO : View sig .tc .vmem S1x1024x2048 .f32 := (Memref.whole cc0_stg9_0 : Memref sig .tc .vmem S1x1024x2048 .f32).view

/-- The launch's invariant with the scratch buffers written as memrefs. -/
theorem rest_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

variable (m : (ℓ : Loc nD τ sig) → Buf (Elt F) ℓ) (ρ : Dev nD → PrngReg)

/-- The run of the body at grid point 0. -/
abbrev runFirst (c : Dev nD) (t : Fin cfg0.N) (h : t.val = 0) :=
  firstRun c (grid0.coords t) (ms0 t) (hs0 t) (ms1 t) (hs1 t) (ms2 t) (hs2 t) (ms3 t) (hs3 t) (ms4 t) (hs4 t) (ms5
    t) (hs5 t) (ms6 t) (hs6 t) (ms7 t) (hs7 t) (ms8 t) (hs8 t) (ms9 t) (hs9 t) sc0 (Memref.isWhole_whole _) sc1
    (Memref.isWhole_whole _) sc2 (Memref.isWhole_whole _) (iblk m c 0 t) (iblk m c 1 t) (iblk m c 2 t) (iblk m c
    3 t) (iblk m c 4 t) (iblk m c 5 t) (iblk m c 6 t) (iblk m c 7 t) (iblk m c 8 t) ((first_iff t).mpr h)

/-- The run of the body at a later grid point, the band scratch holding `xs`. -/
abbrev runLater (c : Dev nD) (t : Fin cfg0.N) (h : ¬t.val = 0) (xs : Vec F S3x256x328 .bf16) :=
  laterRun c (grid0.coords t) (ms0 t) (hs0 t) (ms1 t) (hs1 t) (ms2 t) (hs2 t) (ms3 t) (hs3 t) (ms4 t) (hs4 t) (ms5
    t) (hs5 t) (ms6 t) (hs6 t) (ms7 t) (hs7 t) (ms8 t) (hs8 t) (ms9 t) (hs9 t) sc0 (Memref.isWhole_whole _) sc1
    (Memref.isWhole_whole _) sc2 (Memref.isWhole_whole _) (iblk m c 0 t) (iblk m c 1 t) (iblk m c 2 t) (iblk m c
    3 t) (iblk m c 4 t) (iblk m c 5 t) (iblk m c 6 t) (iblk m c 7 t) (iblk m c 8 t) (fun h' => h ((first_iff t).mp h')) xs

/-- Grid point 0. -/
abbrev t0 : Fin cfg0.N := ⟨0, by rw [show cfg0.N = 16 from N_0]; decide⟩

/-- The band scratch after the first point, and from then on. -/
def band (c : Dev nD) : Vec F S3x256x328 .bf16 :=
  VB.read (Elt F) (VB.writes (Elt F) VB.junk (runFirst m c t0 rfl).1)

/-- The output block that point `t` leaves. -/
def outAt (c : Dev nD) (t : Fin cfg0.N) : Vec F S1x1024x2048 .f32 :=
  if h : t.val = 0 then VO.read (Elt F) (VO.writes (Elt F) VO.junk (runFirst m c t h).2.1)
  else VO.read (Elt F) (VO.writes (Elt F) VO.junk (runLater m c t h (band m c)).1)

/-- The invariant before point `n`: at first every scratch buffer at anything, afterwards the band scratch at `band`. -/
def inv (c : Dev nD) : ℕ → sProp 𝕄
  | 0 => Pipeline.ΦA spec0 c
  | _ + 1 => iprop(iprop(owns (c : Thread nD τ) sc0 fullShare (band m c) ∗ (∃ d, owns (c : Thread nD τ) sc1 fullShare d)
      ∗ (∃ d, owns (c : Thread nD τ) sc2 fullShare d)) ∗ (∃ r, prngReg c r))

theorem inv_later (c : Dev nD) (n : ℕ) (h : ¬n = 0) : inv m c n = inv m c 1 := by
  cases n with
  | zero => exact absurd rfl h
  | succ n => rfl

/-- The proof data of the pipeline: the inputs' blocks stay, the output's block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := inv m c t.val
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val := by
  dsimp only [dats, Fin.val_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
/-- The body at any point: the first point's run or a later point's, by cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    after0, after1, after2, after3, after4, after5, after6, after7, after8, after9]
  rw [show (dats m 0 c).Φ t.succ = inv m c (t.val + 1) from rfl, inv_later m c (t.val + 1) (Nat.succ_ne_zero _),
    inv_castSucc m c t]
  by_cases h : t.val = 0
  · obtain rfl : t = t0 := Fin.ext h
    rw [show inv m c (t0 : Fin cfg0.N).val = Pipeline.ΦA spec0 c from rfl, rest_eq,
      show outAt m c t0 = VO.read (Elt F) (VO.writes (Elt F) VO.junk (runFirst m c t0 h).2.1) from dif_pos h]
    unfold inv band
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst m c t0 rfl).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, H7, H8, ⟨%e9, H9⟩, ⟨%es0, HS0⟩, HS1, HS2⟩
    isplitl [HS0 HS1 HS2 Hg]
    · isplitl [HS0 HS1 HS2]
      · isplitl [HS0]
        · unfold owns; iexists _; isplitr
          swap; · iexact HS0
          ipureintro; exact View.read_writes_of_cover _ _ _ _ _ (firstRun_bandCover c _ _ _ _ _ _ _ _ _ _ _ _ _ _ _ _ _ _ _ _ _ _ _ _ _ _ _ _ _ _ _ _ _ _ _ _ _)
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (firstRun_cover c _ _ _ _ _ _ _ _ _ _ _ _ _ _ _ _ _ _ _ _ _ _ _ _ _ _ _ _ _ _ _ _ _ _ _ _ _)

  · rw [inv_later m c t.val h,
      show outAt m c t = VO.read (Elt F) (VO.writes (Elt F) VO.junk (runLater m c t h (band m c)).1) from dif_neg h]
    unfold inv
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLater m c t h (band m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, H7, H8, ⟨%e9, H9⟩, HS0, HS1, HS2⟩
    isplitl [HS0 HS1 HS2 Hg]
    · isplitl [HS0 HS1 HS2]
      · isplitl [HS0]
        · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (laterRun_cover c _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The pipeline's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch buffers back. -/
theorem hout (c : Dev nD) : (dats m 0 c).Φ (Fin.last cfg0.N) ⊢ Pipeline.ΦA spec0 c := by
  rw [show (dats m 0 c).Φ (Fin.last cfg0.N) = inv m c (Fin.last cfg0.N).val from rfl,
    inv_later m c _ (by rw [Fin.val_last, show cfg0.N = 16 from N_0]; decide), rest_eq]
  unfold inv
  iintro ⟨⟨HS0, HS1, HS2⟩, Hg⟩
  isplitl [HS0 HS1 HS2]
  · isplitl [HS0]; · iexists _; iexact HS0
    isplitl [HS1]; · iexact HS1
    iexact HS2
  iexact Hg

/-! ## The run and the frame -/

set_option backward.isDefEq.respectTransparency.types false in
/-- Every execution ends with each array at what the proof data computes, and with every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Pieces.lean ====
/- What the kernel's body stores, as one list of pieces written once for every sub-block and every chunk of rows: the
   body runs four sub-blocks of 256 rows, each in eight chunks of 32 rows. -/
module

public import proofs.«01_k».proof.Proof.FrameIdeal

@[expose] public section

set_option maxRecDepth 16384
set_option maxHeartbeats 1000000

noncomputable section

namespace Cert.KernelIdeal.Body

open Cert.KernelIdeal.Gen
open Idealize.ShloMosaic Idealize.ShloMosaic.TcCoe Idealize.ShloMosaic.Tactic
open Idealize.SL.Sem

variable {F : FTy → Type} [FloatOps F]

/-! ## The operations of one sub-block -/

theorem sliceRows (k : ℕ) : S1096x1024.Slices ![256 * (k % 4), 0] S328x1024 :=
  ⟨rfl, fun a => match a with
    | ⟨0, _⟩ => (by omega : 256 * (k % 4) + 328 ≤ 1096)
    | ⟨1, _⟩ => (by omega : 0 + 1024 ≤ 1024)⟩

theorem sliceSums (n : ℕ) : S256x1.Slices ![32 * (n % 8), 0] S32x1 :=
  ⟨rfl, fun a => match a with
    | ⟨0, _⟩ => (by omega : 32 * (n % 8) + 32 ≤ 256)
    | ⟨1, _⟩ => (by omega : 0 + 1 ≤ 1)⟩

/-- Sub-block `k`'s mixed rows: the band matrix times the 328 rows of the input that start at row `256 k`. -/
def mixed (k : ℕ) (xe : FVec F S1096x1024 .bf16) (s : Vec F S1x256x328 .bf16) : FVec F S1x256x1024 .bf16 :=
  shapeCast S1x256x1024 (truncf .bf16 (matmul dot_S256x328_S328x1024_S256x1024_1_0_0_1_n_n none
    (shapeCast S256x328 s shapeCasts_S1x256x328_S256x328 : FVec F S256x328 .bf16)
    (extractStridedSlice S328x1024 ![256 * (k % 4), 0] xe (sliceRows k)) (constant S256x1024 .f32 0x00000000#32))
    bitsLt_bf16_f32) shapeCasts_S256x1024_S1x256x1024

/-- The sums of the band matrix's rows. -/
def rowSums (s : Vec F S1x256x328 .bf16) : FVec F S256x1 .f32 := k0_pay85 s

/-- The mixed rows times the weights. -/
def projected (xb : Vec F S1x256x1024 .bf16) (w : Vec F S2048x1024 .bf16) : FVec F S1x256x2048 .f32 := k0_pay87 (k0_pay86 xb) w

/-- Chunk `n` before the normalisation: its projected rows, plus the row sums times the bias. -/
def chunkSum (n : ℕ) (rs : FVec F S256x1 .f32) (pre : Vec F S1x32x2048 .f32) (b : Vec F S1x2048 .f32) : FVec F S32x2048 .f32 :=
  addf (shapeCast S32x2048 pre shapeCasts_S1x32x2048_S32x2048)
    (mulf (broadcastTo S32x2048 (extractStridedSlice S32x1 ![32 * (n % 8), 0] rs (sliceSums n)) broadcasts_S32x1_S32x2048)
      (broadcastTo S32x2048 (shapeCast S1x2048 b shapeCasts_S1x2048_S1x2048) broadcasts_S1x2048_S32x2048))

/-- The mean of each row, as the body computes it. -/
def rowMean (z : FVec F S32x2048 .f32) : FVec F S32x1 .f32 :=
  divf (shapeCast S32x1 (multiReduction .add [1] S32 z 0x00000000#32 reduces_S32x2048_S32 (.inl rfl) rfl : FVec F S32 .f32)
    shapeCasts_S32_S32x1) (broadcast S32x1 (Scalar.ofBits .f32 0x45000000#32))

/-- The rows less their means. -/
def centred (z : FVec F S32x2048 .f32) : FVec F S32x2048 .f32 :=
  subf z (broadcastTo S32x2048 (rowMean z) broadcasts_S32x1_S32x2048)

/-- The normalised chunk, as it is stored. -/
def normalised (z : FVec F S32x2048 .f32) (g bt : Vec F S1x2048 .f32) : FVec F S1x32x2048 .f32 :=
  shapeCast S1x32x2048 (addf (mulf (mulf (centred z)
      (broadcastTo S32x2048 (rsqrt (addf (rowMean (mulf (centred z) (centred z)))
        (broadcast S32x1 (Scalar.ofBits .f32 0x3727C5AC#32)))) broadcasts_S32x1_S32x2048))
      (broadcastTo S32x2048 (shapeCast S1x2048 g shapeCasts_S1x2048_S1x2048) broadcasts_S1x2048_S32x2048))
      (broadcastTo S32x2048 (shapeCast S1x2048 bt shapeCasts_S1x2048_S1x2048) broadcasts_S1x2048_S32x2048))
    shapeCasts_S32x2048_S1x32x2048

/-! ## The scratch buffers and the output block, piece by piece -/

theorem slotIn {d e : ℕ} (k : ℕ) (a : Fin 3) :
    (![k % 2, 0, 0] : Fin 3 → ℕ) a + (![1, d, e] : Fin 3 → ℕ) a ≤ (![2, d, e] : Fin 3 → ℕ) a := match a with
  | ⟨0, _⟩ => (by omega : k % 2 + 1 ≤ 2)
  | ⟨1, _⟩ => (by omega : 0 + d ≤ d)
  | ⟨2, _⟩ => (by omega : 0 + e ≤ e)

theorem chunkIn (n : ℕ) (a : Fin 3) :
    (![n / 8 % 2, 32 * (n % 8), 0] : Fin 3 → ℕ) a + (![1, 32, 2048] : Fin 3 → ℕ) a ≤ (![2, 256, 2048] : Fin 3 → ℕ) a := match a with
  | ⟨0, _⟩ => (by omega : n / 8 % 2 + 1 ≤ 2)
  | ⟨1, _⟩ => (by omega : 32 * (n % 8) + 32 ≤ 256)
  | ⟨2, _⟩ => (by omega : 0 + 2048 ≤ 2048)

theorem outIn (n : ℕ) (a : Fin 3) :
    (![0, 32 * (n % 32), 0] : Fin 3 → ℕ) a + (![1, 32, 2048] : Fin 3 → ℕ) a ≤ (![1, 1024, 2048] : Fin 3 → ℕ) a := match a with
  | ⟨0, _⟩ => (by omega : 0 + 1 ≤ 1)
  | ⟨1, _⟩ => (by omega : 32 * (n % 32) + 32 ≤ 1024)
  | ⟨2, _⟩ => (by omega : 0 + 2048 ≤ 2048)

/-- Slot `k % 2` of the mixed-rows scratch, slot `k % 2` of the projected-rows scratch, the 32 rows that chunk `n` reads
    there, and the rows it stores. -/
abbrev slotX (k : ℕ) : Rect S2x256x1024 := Rect.unit ![k % 2, 0, 0] S1x256x1024.size (slotIn k)
abbrev slotP (k : ℕ) : Rect S2x256x2048 := Rect.unit ![k % 2, 0, 0] S1x256x2048.size (slotIn k)
abbrev chunkP (n : ℕ) : Rect S2x256x2048 := Rect.unit ![n / 8 % 2, 32 * (n % 8), 0] S1x32x2048.size (chunkIn n)
abbrev chunkO (n : ℕ) : Rect S1x1024x2048 := Rect.unit ![0, 32 * (n % 32), 0] S1x32x2048.size (outIn n)

section Lists

variable (vx : View sig .tc .vmem S2x256x1024 .bf16) (vp : View sig .tc .vmem S2x256x2048 .f32)
  (s : ℕ → Vec F S1x256x328 .bf16) (xe : FVec F S1096x1024 .bf16) (w : Vec F S2048x1024 .bf16) (b g bt : Vec F S1x2048 .f32)

/-- The pieces in the mixed-rows scratch after `k` sub-blocks, the last one first. -/
def piecesX : ℕ → List (View.Piece (Elt F) S2x256x1024 .bf16)
  | 0 => []
  | k + 1 => ⟨slotX k, mixed k xe (s k)⟩ :: piecesX k

/-- The pieces in the projected-rows scratch after `k` sub-blocks, the last one first. -/
def piecesP : ℕ → List (View.Piece (Elt F) S2x256x2048 .f32)
  | 0 => []
  | k + 1 => ⟨slotP k, projected (vx.readCov (piecesX s xe (k + 1)) (slotX k).toLoadRect) w⟩ :: piecesP k

/-- What chunk `n` stores. -/
def chunkVal (n : ℕ) : FVec F S1x32x2048 .f32 :=
  normalised (chunkSum n (rowSums (s (n / 8))) (vp.readCov (piecesP vx s xe w (n / 8 + 1)) (chunkP n).toLoadRect) b) g bt

/-- The pieces in the output block after `n` chunks, the last one first. -/
def piecesO : ℕ → List (View.Piece (Elt F) S1x1024x2048 .f32)
  | 0 => []
  | n + 1 => ⟨chunkO n, chunkVal vx vp s xe w b g bt n⟩ :: piecesO n

end Lists

section Runs

variable (c : Dev nD) (i : grid0.Coords)
  (arg2 : Memref sig .tc .vmem S50x2048 .f32) (harg2 : arg2.IsWhole)
  (arg3 : Memref sig .tc .vmem S5x2048 .f32) (harg3 : arg3.IsWhole)
  (arg4 : Memref sig .tc .vmem S1x64x1024 .f32) (harg4 : arg4.IsWhole)
  (arg5 : Memref sig .tc .vmem S1x1024x1024 .f32) (harg5 : arg5.IsWhole)
  (arg6 : Memref sig .tc .vmem S1x8x1024 .f32) (harg6 : arg6.IsWhole)
  (arg7 : Memref sig .tc .vmem S2048x1024 .bf16) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S1x1024x2048 .f32) (harg11 : arg11.IsWhole)
  (arg12 : Memref sig .tc .vmem S3x256x328 .bf16) (harg12 : arg12.IsWhole)
  (arg13 : Memref sig .tc .vmem S2x256x1024 .bf16) (harg13 : arg13.IsWhole)
  (arg14 : Memref sig .tc .vmem S2x256x2048 .f32) (harg14 : arg14.IsWhole)
  (x0 : Vec F S50x2048 .f32) (x1 : Vec F S5x2048 .f32) (x2 : Vec F S1x64x1024 .f32)
  (x3 : Vec F S1x1024x1024 .f32) (x4 : Vec F S1x8x1024 .f32) (x5 : Vec F S2048x1024 .bf16)
  (x6 : Vec F S1x2048 .f32) (x7 : Vec F S1x2048 .f32) (x8 : Vec F S1x2048 .f32)

/-- The loads of whole input blocks. -/
abbrev rows3 : FVec F S1096x1024 .bf16 :=
  k0_pay82 (View.readAt (Elt F) arg4.view (Rect.unit ![0, 0, 0] S1x64x1024.size inb_S1x64x1024_S1x64x1024_0_0_0).toLoadRect (harg4.unread x2))
    (View.readAt (Elt F) arg5.view (Rect.unit ![0, 0, 0] S1x1024x1024.size inb_S1x1024x1024_S1x1024x1024_0_0_0).toLoadRect (harg5.unread x3))
    (View.readAt (Elt F) arg6.view (Rect.unit ![0, 0, 0] S1x8x1024.size inb_S1x8x1024_S1x8x1024_0_0_0).toLoadRect (harg6.unread x4))
abbrev weights : Vec F S2048x1024 .bf16 :=
  View.readAt (Elt F) arg7.view (Rect.unit ![0, 0] S2048x1024.size inb_S2048x1024_S2048x1024_0_0).toLoadRect (harg7.unread x5)
abbrev biasRow : Vec F S1x2048 .f32 :=
  View.readAt (Elt F) arg8.view (Rect.unit ![0, 0] S1x2048.size inb_S1x2048_S1x2048_0_0).toLoadRect (harg8.unread x6)
abbrev gammaRow : Vec F S1x2048 .f32 :=
  View.readAt (Elt F) arg9.view (Rect.unit ![0, 0] S1x2048.size inb_S1x2048_S1x2048_0_0).toLoadRect (harg9.unread x7)
abbrev betaRow : Vec F S1x2048 .f32 :=
  View.readAt (Elt F) arg10.view (Rect.unit ![0, 0] S1x2048.size inb_S1x2048_S1x2048_0_0).toLoadRect (harg10.unread x8)

/-- The band matrix that sub-block `k` loads at a later point, where the scratch holds `xs`. -/
def laterSlab (xs : Vec F S3x256x328 .bf16) : ℕ → Vec F S1x256x328 .bf16
  | 0 => View.readAt (Elt F) arg12.view (Rect.unit (s := S3x256x328) (k0_off1 i 0#32 1#32) S1x256x328.size (k0_off1_inb i 0)).toLoadRect (harg12.unread xs)
  | 3 => View.readAt (Elt F) arg12.view (Rect.unit (s := S3x256x328) (k0_off1 i 1#32 2#32) S1x256x328.size (k0_off1_inb i 1)).toLoadRect (harg12.unread xs)
  | _ => View.readAt (Elt F) arg12.view (Rect.unit (s := S3x256x328) ![0, 0, 0] S1x256x328.size inb_S3x256x328_S1x256x328_0_0_0).toLoadRect (harg12.unread xs)

/-- At a later point the body stores the listed pieces. -/
theorem laterRun_pieces (hc : ¬first i) (xs : Vec F S3x256x328 .bf16) :
    (laterRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc xs).1
      = piecesO arg13.view arg14.view (laterSlab i arg12 harg12 xs) (rows3 arg4 harg4 arg5 harg5 arg6 harg6 x2 x3 x4)
          (weights arg7 harg7 x5) (biasRow arg8 harg8 x6) (gammaRow arg9 harg9 x7) (betaRow arg10 harg10 x8) 32 := rfl

/-- The band matrix that sub-block `k` loads at the first point, just after the three were stored as the pieces `L`. -/
def firstSlab (L : List (View.Piece (Elt F) S3x256x328 .bf16)) : ℕ → Vec F S1x256x328 .bf16
  | 0 => arg12.view.readCov L (Rect.unit (s := S3x256x328) (k0_off1 i 0#32 1#32) S1x256x328.size (k0_off1_inb i 0)).toLoadRect
  | 3 => arg12.view.readCov L (Rect.unit (s := S3x256x328) (k0_off1 i 1#32 2#32) S1x256x328.size (k0_off1_inb i 1)).toLoadRect
  | _ => arg12.view.readCov L (Rect.unit (s := S3x256x328) ![0, 0, 0] S1x256x328.size inb_S3x256x328_S1x256x328_0_0_0).toLoadRect

/-- At the first point likewise. -/
theorem firstRun_pieces (hc : first i) :
    (firstRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc).2.1
      = piecesO arg13.view arg14.view (firstSlab i arg12 (firstRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc).1) (rows3 arg4 harg4 arg5 harg5 arg6 harg6 x2 x3 x4)
          (weights arg7 harg7 x5) (biasRow arg8 harg8 x6) (gammaRow arg9 harg9 x7) (betaRow arg10 harg10 x8) 32 := rfl

end Runs

end Cert.KernelIdeal.Body

end
-- ==== Proof.Block.lean ====
/- What one block of the kernel stores, read at an index as a number: the normalised row of
   `∑ d, (∑ q, s q * x q d) * w o d + (∑ q, s q) * b o`, where `s` is a row of the band matrix. -/
module

public import proofs.«01_k».proof.Proof.Pieces
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic
open Idealize.SL.Sem

/-! ## The mathematics of one row -/

/-- The mean of 2048 numbers. -/
def avg (z : Fin 2048 → EReal) : EReal := Ideal.div (∑ o, z o) (Ideal.ofBits .f32 0x45000000#32)

/-- The layer normalisation of one row `z`, scaled by `g` and shifted by `bt`, at position `o`. -/
def layerNorm (z : Fin 2048 → EReal) (g bt : EReal) (o : Fin 2048) : EReal :=
  (z o - avg z) * Ideal.rsqrt (avg (fun o' => (z o' - avg z) * (z o' - avg z)) + Ideal.ofBits .f32 0x3727C5AC#32) * g + bt

/-! ## Each operation at an index -/

theorem mixed_apply (k : ℕ) (xe : FVec Ideal S1096x1024 .bf16) (s : FVec Ideal S1x256x328 .bf16) (p : Fin 256) (d : Fin 1024) :
    mixed k xe s (ix3 0 p d) = ∑ q : Fin 328, s (ix3 0 p q) * xe (ix2 ⟨256 * (k % 4) + q.val, by omega⟩ d) := by
  pointwise! [mixed]

theorem rowSums_apply (s : FVec Ideal S1x256x328 .bf16) (p : Fin 256) :
    (rowSums (F := Ideal) s (ix2 p 0) : EReal) = ∑ q : Fin 328, (s (ix3 0 p q) : EReal) := by
  pointwise! [rowSums, k0_pay85, k0_pay83]

theorem projected_apply (xb : FVec Ideal S1x256x1024 .bf16) (w : FVec Ideal S2048x1024 .bf16) (p : Fin 256) (o : Fin 2048) :
    (projected (F := Ideal) xb w (ix3 0 p o) : EReal) = ∑ d : Fin 1024, (xb (ix3 0 p d) * w (ix2 o d) : EReal) := by
  pointwise! [projected, k0_pay86, k0_pay87]

theorem chunkSum_apply (n : ℕ) (rs : FVec Ideal S256x1 .f32) (pre : FVec Ideal S1x32x2048 .f32) (b : FVec Ideal S1x2048 .f32)
    (r : Fin 32) (o : Fin 2048) :
    chunkSum n rs pre b (ix2 r o) = pre (ix3 0 r o) + rs (ix2 ⟨32 * (n % 8) + r.val, by omega⟩ 0) * b (ix2 0 o) := by
  pointwise! [chunkSum]

theorem normalised_apply (z : FVec Ideal S32x2048 .f32) (g bt : FVec Ideal S1x2048 .f32) (r : Fin 32) (o : Fin 2048) :
    normalised z g bt (ix3 0 r o) = layerNorm (fun o' => z (ix2 r o')) (g (ix2 0 o)) (bt (ix2 0 o)) o := by
  pointwise! [normalised, centred, rowMean, layerNorm, avg]

/-! ## The block the body leaves -/

/-- Row `p` of sub-block `k` before the normalisation: `s` is the band matrix, `xe` the input's rows. -/
def rowVal (k : ℕ) (s : FVec Ideal S1x256x328 .bf16) (xe : FVec Ideal S1096x1024 .bf16) (w : FVec Ideal S2048x1024 .bf16)
    (b : FVec Ideal S1x2048 .f32) (p : Fin 256) (o : Fin 2048) : EReal :=
  (∑ d : Fin 1024, (∑ q : Fin 328, s (ix3 0 p q) * xe (ix2 ⟨256 * (k % 4) + q.val, by omega⟩ d)) * w (ix2 o d))
    + (∑ q : Fin 328, (s (ix3 0 p q) : EReal)) * b (ix2 0 o)

variable (vx : View sig .tc .vmem S2x256x1024 .bf16) (vp : View sig .tc .vmem S2x256x2048 .f32)
  (s : ℕ → FVec Ideal S1x256x328 .bf16) (xe : FVec Ideal S1096x1024 .bf16) (w : FVec Ideal S2048x1024 .bf16)
  (b g bt : FVec Ideal S1x2048 .f32)

/-- The mixed rows just stored are the ones read back. -/
theorem readX (k : ℕ) : vx.readCov (piecesX (F := Ideal) s xe (k + 1)) (slotX k).toLoadRect = mixed (F := Ideal) k xe (s k) :=
  View.readCov_cons_toLoadRect ..

/-- The rows that chunk `n` reads are rows `32 (n % 8) …` of its sub-block's projected rows. -/
theorem readP (n : ℕ) (r : Fin 32) (o : Fin 2048) :
    vp.readCov (piecesP (F := Ideal) vx s xe w (n / 8 + 1)) (chunkP n).toLoadRect (ix3 0 r o)
      = projected (F := Ideal) (mixed (F := Ideal) (n / 8) xe (s (n / 8))) w (ix3 0 ⟨32 * (n % 8) + r.val, by omega⟩ o) := by
  rw [View.readCov_eq_canon']
  show View.canon (_ :: _) _ = _
  have e : (chunkP n).toLoadRect.idx (ix3 0 r o)
      = (slotP (n / 8)).emb (ix3 0 ⟨32 * (n % 8) + r.val, by omega⟩ o : S1x256x2048.Idx) := by
    funext a; apply Fin.ext
    match a with
    | ⟨0, _⟩ => rfl
    | ⟨1, _⟩ => show 32 * (n % 8) + 1 * r.val = 0 + 1 * (32 * (n % 8) + r.val); omega
    | ⟨2, _⟩ => rfl
  rw [e]
  refine (View.canon_cons_emb _ _ _ _).trans ?_
  rw [readX]

/-- Chunk `n` at an index. -/
theorem chunkVal_apply (n : ℕ) (r : Fin 32) (o : Fin 2048) :
    (chunkVal (F := Ideal) vx vp s xe w b g bt n (ix3 0 r o) : EReal)
      = layerNorm (rowVal (n / 8) (s (n / 8)) xe w b ⟨32 * (n % 8) + r.val, by omega⟩) (g (ix2 0 o)) (bt (ix2 0 o)) o := by
  unfold chunkVal
  rw [normalised_apply]
  congr 1
  funext o'
  rw [chunkSum_apply, readP, projected_apply, rowSums_apply]
  simp only [mixed_apply]
  rfl

/-- The output block at row `y`: chunk `y / 32`, row `y % 32`. -/
theorem canon_piecesO (N : ℕ) (hN : N ≤ 32) (y : Fin 1024) (hy : y.val < 32 * N) (o : Fin 2048) :
    View.canon (piecesO (F := Ideal) vx vp s xe w b g bt N) (ix3 0 y o)
      = chunkVal (F := Ideal) vx vp s xe w b g bt (y.val / 32) (ix3 0 ⟨y.val % 32, by omega⟩ o) := by
  induction N with
  | zero => omega
  | succ N ih =>
    show View.canon (_ :: _) _ = _
    by_cases h : y.val / 32 = N
    · subst h
      have e : (ix3 0 y o : S1x1024x2048.Idx) = (chunkO (y.val / 32)).emb (ix3 0 ⟨y.val % 32, by omega⟩ o : S1x32x2048.Idx) := by
        funext a; apply Fin.ext
        match a with
        | ⟨0, _⟩ => rfl
        | ⟨1, _⟩ => show y.val = 32 * (y.val / 32 % 32) + 1 * (y.val % 32); omega
        | ⟨2, _⟩ => show o.val = 0 + 1 * o.val; omega
      rw [e]
      exact View.canon_cons_emb _ _ _ _
    · rw [View.canon_cons_of_not_mem]
      · exact ih (by omega) (by omega)
      · intro hm
        obtain ⟨x, -, hx⟩ := Finset.mem_map.mp (by rwa [Rect.map_emb_univ] : _ ∈ Finset.univ.map (chunkO N).emb)
        have := congrArg Fin.val (congrFun hx 1)
        have h1 : 32 * (N % 32) + 1 * (x 1).val = y.val := this
        have h2 : (x 1).val < 32 := (x 1).isLt
        omega

/-- So the output block at row `y`, column `o`. -/
theorem canon_block (y : Fin 1024) (o : Fin 2048) :
    (View.canon (piecesO (F := Ideal) vx vp s xe w b g bt 32) (ix3 0 y o) : EReal)
      = layerNorm (rowVal (y.val / 256) (s (y.val / 256)) xe w b ⟨y.val % 256, by omega⟩) (g (ix2 0 o)) (bt (ix2 0 o)) o := by
  rw [canon_piecesO (hN := le_refl _) (hy := by omega), chunkVal_apply]
  have e1 : y.val / 32 / 8 = y.val / 256 := by omega
  have e2 : (⟨32 * (y.val / 32 % 8) + y.val % 32, by omega⟩ : Fin 256) = ⟨y.val % 256, by omega⟩ := Fin.ext (by
    show 32 * (y.val / 32 % 8) + y.val % 32 = y.val % 256; omega)
  rw [e1]
  exact congrArg (fun p => layerNorm (rowVal (y.val / 256) (s (y.val / 256)) xe w b p) _ _ o) e2

end Cert.KernelIdeal.Body

end
-- ==== Proof.Equation.lean ====
/- The equation behind the kernel, over the real numbers: a row of the band matrix times the rows of the input it
   covers is the row itself, plus the past taps, plus the future taps. Nothing here mentions the programs. -/
module

public import Mathlib.Data.Real.Basic
public import Mathlib.Algebra.BigOperators.Intervals
public import Mathlib.Algebra.BigOperators.Ring.Finset

@[expose] public section

noncomputable section

namespace Cert.Band

open Finset

section Entries

variable {R : Type} [AddCommMonoid R] [One R]

/-- The inner band matrix at row `p`, column `q`: one on the row itself (column `p + 64`), the past weights on the 50
    columns before it, the future weights on the five after it. -/
def inner (wm wf : ℕ → R) (p q : ℕ) : R :=
  (if q = p + 64 then 1 else 0) + ∑ j ∈ range 50, (if q = p + 14 + j then wm j else 0)
    + ∑ k ∈ range 5, (if q = p + 65 + k then wf k else 0)

/-- The past taps of the first fifty rows of a sequence: row `p` sees rows `j < p` with weight `j`. -/
def head (wm : ℕ → R) (p q : ℕ) : R :=
  ∑ j ∈ range 49, (if q = 64 + j ∧ j < p ∧ p < 50 then wm j else 0)

/-- The three band matrices: 0 for the inside of a sequence, 1 for its start, 2 for its end. -/
def entry (wm wf : ℕ → R) (s p q : ℕ) : R :=
  match s with
  | 1 => (if 50 ≤ p ∨ p + 64 ≤ q then inner wm wf p q else 0) + head wm p q
  | 2 => if q < 320 then inner wm wf p q else 0
  | _ => inner wm wf p q

end Entries

/-- Which band matrix sub-block `k` of half `i` of a sequence uses. -/
def slab (i k : ℕ) : ℕ := if k = 0 ∧ i = 0 then 1 else if k = 3 ∧ i = 1 then 2 else 0

/-- The row of the sequence that stands at row `e` of the kernel's extended block of half `i`. -/
def rowOf (i e : ℕ) : ℕ :=
  if e < 64 then 64 * (16 * i - 1) + e else if e < 1088 then 1024 * i + (e - 64) else 8 * min ((i + 1) * 128) 255 + (e - 1088)

/-- The past context of row `t`. -/
def past (wm H : ℕ → ℝ) (t : ℕ) : ℝ :=
  if t < 50 then ∑ j ∈ range t, wm j * H j else ∑ j ∈ range 50, wm j * H (t - 50 + j)

/-- The future context of row `t` of a sequence of 2048 rows. -/
def future (wf H : ℕ → ℝ) (t : ℕ) : ℝ := ∑ k ∈ range 5, if t + 1 + k < 2048 then wf k * H (t + 1 + k) else 0

/-- A sum against a family of one-column indicators picks the columns. -/
theorem sum_taps (n N : ℕ) (w : ℕ → ℝ) (pos : ℕ → ℕ) (c : ℕ → Prop) [DecidablePred c] (Y : ℕ → ℝ) (h : ∀ j < n, c j → pos j < N) :
    ∑ q ∈ range N, (∑ j ∈ range n, (if q = pos j ∧ c j then w j else 0)) * Y q
      = ∑ j ∈ range n, if c j then w j * Y (pos j) else 0 := by
  simp only [sum_mul]
  rw [sum_comm]
  refine sum_congr rfl fun j hj => ?_
  by_cases hc : c j
  · rw [if_pos hc, sum_eq_single (pos j)]
    · simp [hc]
    · intro q _ hq; simp [hq]
    · intro hq; exact absurd (mem_range.mpr (h j (mem_range.mp hj) hc)) hq
  · simp [hc]

theorem sum_one (N a : ℕ) (h : a < N) (c : Prop) [Decidable c] (Y : ℕ → ℝ) :
    ∑ q ∈ range N, (if q = a ∧ c then (1 : ℝ) else 0) * Y q = if c then Y a else 0 := by
  rw [sum_eq_single a]
  · by_cases hc : c <;> simp [hc]
  · intro q _ hq; simp [hq]
  · intro hq; exact absurd (mem_range.mpr h) hq

theorem inner_row (wm wf Y : ℕ → ℝ) (p : ℕ) (hp : p < 256) :
    ∑ q ∈ range 328, inner wm wf p q * Y q
      = Y (p + 64) + (∑ j ∈ range 50, wm j * Y (p + 14 + j)) + ∑ k ∈ range 5, wf k * Y (p + 65 + k) := by
  have e1 := sum_one 328 (p + 64) (by omega) True Y
  have e2 := sum_taps 50 328 wm (fun j => p + 14 + j) (fun _ => True) Y (fun j _ _ => by omega)
  have e3 := sum_taps 5 328 wf (fun k => p + 65 + k) (fun _ => True) Y (fun j _ _ => by omega)
  simp only [and_true, if_true] at e1 e2 e3
  simp only [inner, add_mul, sum_add_distrib, e1, e2, e3]

theorem first_row (wm wf Y : ℕ → ℝ) (p : ℕ) (hp : p < 50) :
    ∑ q ∈ range 328, entry wm wf 1 p q * Y q
      = Y (p + 64) + (∑ j ∈ range p, wm j * Y (64 + j)) + ∑ k ∈ range 5, wf k * Y (p + 65 + k) := by
  have e1 := sum_one 328 (p + 64) (by omega) True Y
  have e2 := sum_taps 49 328 wm (fun j => 64 + j) (fun j => j < p ∧ p < 50) Y (fun j _ _ => by omega)
  have e3 := sum_taps 5 328 wf (fun k => p + 65 + k) (fun _ => True) Y (fun j _ _ => by omega)
  simp only [and_true, if_true] at e1 e2 e3
  have hin : ∀ q, (if 50 ≤ p ∨ p + 64 ≤ q then inner wm wf p q else 0)
      = (if q = p + 64 then 1 else 0) + ∑ k ∈ range 5, (if q = p + 65 + k then wf k else 0) := by
    intro q
    by_cases hq : p + 64 ≤ q
    · rw [if_pos (.inr hq), inner, sum_eq_zero (s := range 50), add_zero]
      intro j hj
      have := mem_range.mp hj
      rw [if_neg (by omega)]
    · rw [if_neg (by omega), if_neg (by omega), sum_eq_zero, add_zero]
      intro k _
      rw [if_neg (by omega)]
  have hh : (∑ j ∈ range 49, if j < p ∧ p < 50 then wm j * Y (64 + j) else 0) = ∑ j ∈ range p, wm j * Y (64 + j) := by
    simp only [hp, and_true]
    rw [← sum_filter]
    congr 1
    ext j; simp only [mem_filter, mem_range]; omega
  simp only [entry, hin, head, add_mul, sum_add_distrib, e1, e2, e3, hh]
  exact add_right_comm _ _ _

theorem last_row (wm wf Y : ℕ → ℝ) (p : ℕ) (hp : p < 256) :
    ∑ q ∈ range 328, entry wm wf 2 p q * Y q
      = Y (p + 64) + (∑ j ∈ range 50, wm j * Y (p + 14 + j)) + ∑ k ∈ range 5, if p + 65 + k < 320 then wf k * Y (p + 65 + k) else 0 := by
  have h := inner_row wm wf (fun q => if q < 320 then Y q else 0) p hp
  have e : ∀ q, entry wm wf 2 p q * Y q = inner wm wf p q * (if q < 320 then Y q else 0) := by
    intro q; simp only [entry]; split_ifs <;> simp
  rw [sum_congr rfl fun q _ => e q, h, if_pos (by omega)]
  congr 1
  · congr 1
    refine sum_congr rfl fun j hj => ?_
    have := mem_range.mp hj
    rw [if_pos (by omega)]
  · refine sum_congr rfl fun k _ => ?_
    split_ifs <;> simp

/-- Row `p` of sub-block `k` of half `i`: the band matrix's row times the rows it covers is the sequence's row
    `1024 i + 256 k + p` plus its past and its future context. -/
theorem band_row (wm wf H : ℕ → ℝ) (i k p : ℕ) (hi : i < 2) (hk : k < 4) (hp : p < 256) :
    ∑ q ∈ range 328, entry wm wf (slab i k) p q * H (rowOf i (256 * k + q))
      = H (1024 * i + 256 * k + p) + past wm H (1024 * i + 256 * k + p) + future wf H (1024 * i + 256 * k + p) := by
  -- rows the band reaches stand where the sequence has them
  have row : ∀ q, 64 ≤ 1024 * i + 256 * k + q → 1024 * i + 256 * k + q < 2112 → (¬(i = 0 ∧ k = 0) ∨ 64 ≤ q) → q < 328 →
      rowOf i (256 * k + q) = 1024 * i + 256 * k + q - 64 := by
    intro q h1 h2 h3 h4
    unfold rowOf
    split_ifs <;> omega
  have self : H (rowOf i (256 * k + (p + 64))) = H (1024 * i + 256 * k + p) := by
    rw [row _ (by omega) (by omega) (by omega) (by omega)]; congr 1
  have mem : ¬(i = 0 ∧ k = 0 ∧ p < 50) → ∑ j ∈ range 50, wm j * H (rowOf i (256 * k + (p + 14 + j))) = past wm H (1024 * i + 256 * k + p) := by
    intro h
    rw [past, if_neg (by omega)]
    refine sum_congr rfl fun j hj => ?_
    have := mem_range.mp hj
    rw [row _ (by omega) (by omega) (by omega) (by omega)]; congr 2; omega
  have fut : ¬(i = 1 ∧ k = 3) → ∑ j ∈ range 5, wf j * H (rowOf i (256 * k + (p + 65 + j))) = future wf H (1024 * i + 256 * k + p) := by
    intro h
    rw [future]
    refine sum_congr rfl fun j hj => ?_
    have := mem_range.mp hj
    rw [if_pos (by omega), row _ (by omega) (by omega) (by omega) (by omega)]; congr 2; omega
  by_cases h0 : k = 0 ∧ i = 0
  · rw [slab, if_pos h0]
    by_cases h50 : p < 50
    · rw [first_row wm wf (fun q => H (rowOf i (256 * k + q))) p h50]
      rw [self, fut (by omega), past, if_pos (by omega)]
      have e : 1024 * i + 256 * k + p = p := by omega
      congr 2
      rw [e]
      refine sum_congr rfl fun j hj => ?_
      have := mem_range.mp hj
      rw [row _ (by omega) (by omega) (by omega) (by omega)]; congr 2; omega
    · have e : ∀ q, entry wm wf 1 p q = inner wm wf p q := by
        intro q
        simp only [entry, head]
        rw [if_pos (by omega), sum_eq_zero, add_zero]
        intro j _; rw [if_neg (by omega)]
      rw [sum_congr rfl fun q _ => congrArg (· * _) (e q), inner_row wm wf (fun q => H (rowOf i (256 * k + q))) p hp]
      rw [self, mem (by omega), fut (by omega)]
  · by_cases h3 : k = 3 ∧ i = 1
    · rw [slab, if_neg h0, if_pos h3, last_row wm wf (fun q => H (rowOf i (256 * k + q))) p hp]
      rw [self, mem (by omega), future]
      congr 1
      refine sum_congr rfl fun j hj => ?_
      have := mem_range.mp hj
      by_cases hl : p + 65 + j < 320
      · rw [if_pos hl, if_pos (by omega), row _ (by omega) (by omega) (by omega) (by omega)]; congr 2; omega
      · rw [if_neg hl, if_neg (by omega)]
    · rw [slab, if_neg h0, if_neg h3]
      show ∑ q ∈ range 328, inner wm wf p q * _ = _
      rw [inner_row wm wf (fun q => H (rowOf i (256 * k + q))) p hp]
      rw [self, mem (by omega), fut (by omega)]

end Cert.Band

end
-- ==== Proof.Band.lean ====
/- The three band matrices the first grid point stores, as sums of taps, each read at an index. -/
module

public import proofs.«01_k».proof.Proof.Pieces
public import proofs.«01_k».proof.Proof.Equation
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic
open Idealize.SL.Sem

/-! ## The matrices as the body computes them, for any number of taps -/

section Form

variable {F : FTy → Type} [FloatOps F]

theorem sliceMem (n : ℕ) : S50x1.Slices ![n % 50, 0] S1x1 :=
  ⟨rfl, fun a => match a with
    | ⟨0, _⟩ => (by omega : n % 50 + 1 ≤ 50)
    | ⟨1, _⟩ => (by omega : 0 + 1 ≤ 1)⟩

theorem sliceLa (n : ℕ) : S5x1.Slices ![n % 5, 0] S1x1 :=
  ⟨rfl, fun a => match a with
    | ⟨0, _⟩ => (by omega : n % 5 + 1 ≤ 5)
    | ⟨1, _⟩ => (by omega : 0 + 1 ≤ 1)⟩

/-- Row and column numbers. -/
def rowNo : IVec S256x328 32 := iota .tc S256x328 32 [0] iota_S256x328_d0_w32
def colNo : IVec S256x328 32 := iota .tc S256x328 32 [1] iota_S256x328_d1_w32

/-- `1` or `0` everywhere. -/
def ones : FVec F S256x328 .f32 := broadcast S256x328 (Scalar.ofBits .f32 0x3F800000#32)
def zeros : FVec F S256x328 .f32 := broadcast S256x328 (Scalar.ofBits .f32 0x00000000#32)

/-- One tap: the weight where the condition holds, zero elsewhere. -/
def tap (c : IVec S256x328 1) (w : FVec F S1x1 .f32) : FVec F S256x328 .f32 :=
  select c (broadcastTo S256x328 (shapeCast S1x1 w shapeCasts_S1x1_S1x1) broadcasts_S1x1_S256x328) zeros

/-- Column minus row minus 14 is `n`. -/
def onDiag (n : ℕ) : IVec S256x328 1 := cmpi .eq k0_pay4 (broadcast S256x328 (BitVec.ofNat 32 n))

/-- The row itself and the first `n` past taps. -/
def memBand (x0 : Vec F S50x2048 .f32) : ℕ → FVec F S256x328 .f32
  | 0 => select (onDiag 50) ones zeros
  | n + 1 => addf (memBand x0 n) (tap (onDiag n) (extractStridedSlice S1x1 ![n % 50, 0] (k0_pay2 x0) (sliceMem n)))

/-- With the first `n` future taps. -/
def fullBand (x0 : Vec F S50x2048 .f32) (x1 : Vec F S5x2048 .f32) : ℕ → FVec F S256x328 .f32
  | 0 => memBand x0 50
  | n + 1 => addf (fullBand x0 x1 n) (tap (onDiag (51 + n)) (extractStridedSlice S1x1 ![n % 5, 0] (k0_pay3 x1) (sliceLa n)))

/-- Column `64 + n`, a row after `n` and among the first fifty. -/
def onHead (n : ℕ) : IVec S256x328 1 :=
  andi (andi (cmpi .eq colNo (broadcast S256x328 (BitVec.ofNat 32 (64 + n)))) (cmpi .sgt rowNo (broadcast S256x328 (BitVec.ofNat 32 n))))
    (cmpi .slt rowNo (broadcast S256x328 50#32))

/-- The first `n` past taps of a sequence's first rows. -/
def headBand (x0 : Vec F S50x2048 .f32) : ℕ → FVec F S256x328 .f32
  | 0 => zeros
  | n + 1 => addf (headBand x0 n) (tap (onHead n) (extractStridedSlice S1x1 ![n % 50, 0] (k0_pay2 x0) (sliceMem n)))

/-- The three matrices, as stored. -/
def store (a : FVec F S256x328 .f32) : FVec F S1x256x328 .bf16 :=
  shapeCast S1x256x328 (truncf .bf16 a bitsLt_bf16_f32) shapeCasts_S256x328_S1x256x328
def inside (x0 : Vec F S50x2048 .f32) (x1 : Vec F S5x2048 .f32) : FVec F S1x256x328 .bf16 := store (fullBand x0 x1 5)
def start (x0 : Vec F S50x2048 .f32) (x1 : Vec F S5x2048 .f32) : FVec F S1x256x328 .bf16 :=
  store (addf (select (ori (cmpi .sge rowNo (broadcast S256x328 50#32)) (cmpi .sge (subi colNo rowNo) (broadcast S256x328 64#32)))
    (fullBand x0 x1 5) zeros) (headBand x0 49))
def finish (x0 : Vec F S50x2048 .f32) (x1 : Vec F S5x2048 .f32) : FVec F S1x256x328 .bf16 :=
  store (select (cmpi .slt colNo (broadcast S256x328 320#32)) (fullBand x0 x1 5) zeros)

section Runs

variable (c : Dev nD) (i : grid0.Coords)
  (arg2 : Memref sig .tc .vmem S50x2048 .f32) (harg2 : arg2.IsWhole)
  (arg3 : Memref sig .tc .vmem S5x2048 .f32) (harg3 : arg3.IsWhole)
  (arg4 : Memref sig .tc .vmem S1x64x1024 .f32) (harg4 : arg4.IsWhole)
  (arg5 : Memref sig .tc .vmem S1x1024x1024 .f32) (harg5 : arg5.IsWhole)
  (arg6 : Memref sig .tc .vmem S1x8x1024 .f32) (harg6 : arg6.IsWhole)
  (arg7 : Memref sig .tc .vmem S2048x1024 .bf16) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S1x1024x2048 .f32) (harg11 : arg11.IsWhole)
  (arg12 : Memref sig .tc .vmem S3x256x328 .bf16) (harg12 : arg12.IsWhole)
  (arg13 : Memref sig .tc .vmem S2x256x1024 .bf16) (harg13 : arg13.IsWhole)
  (arg14 : Memref sig .tc .vmem S2x256x2048 .f32) (harg14 : arg14.IsWhole)
  (x0 : Vec F S50x2048 .f32) (x1 : Vec F S5x2048 .f32) (x2 : Vec F S1x64x1024 .f32)
  (x3 : Vec F S1x1024x1024 .f32) (x4 : Vec F S1x8x1024 .f32) (x5 : Vec F S2048x1024 .bf16)
  (x6 : Vec F S1x2048 .f32) (x7 : Vec F S1x2048 .f32) (x8 : Vec F S1x2048 .f32)

/-- The first point stores the three matrices, slab by slab. -/
theorem firstRun_bands (hc : first i) :
    (firstRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc).1
      = [⟨Rect.unit ![2, 0, 0] S1x256x328.size inb_S3x256x328_S1x256x328_2_0_0, finish
            (View.readAt (Elt F) arg2.view (Rect.unit ![0, 0] S50x2048.size inb_S50x2048_S50x2048_0_0).toLoadRect (harg2.unread x0))
            (View.readAt (Elt F) arg3.view (Rect.unit ![0, 0] S5x2048.size inb_S5x2048_S5x2048_0_0).toLoadRect (harg3.unread x1))⟩,
         ⟨Rect.unit ![1, 0, 0] S1x256x328.size inb_S3x256x328_S1x256x328_1_0_0, start
            (View.readAt (Elt F) arg2.view (Rect.unit ![0, 0] S50x2048.size inb_S50x2048_S50x2048_0_0).toLoadRect (harg2.unread x0))
            (View.readAt (Elt F) arg3.view (Rect.unit ![0, 0] S5x2048.size inb_S5x2048_S5x2048_0_0).toLoadRect (harg3.unread x1))⟩,
         ⟨Rect.unit ![0, 0, 0] S1x256x328.size inb_S3x256x328_S1x256x328_0_0_0, inside
            (View.readAt (Elt F) arg2.view (Rect.unit ![0, 0] S50x2048.size inb_S50x2048_S50x2048_0_0).toLoadRect (harg2.unread x0))
            (View.readAt (Elt F) arg3.view (Rect.unit ![0, 0] S5x2048.size inb_S5x2048_S5x2048_0_0).toLoadRect (harg3.unread x1))⟩] := rfl

end Runs

end Form

end Cert.KernelIdeal.Body

end
-- ==== Proof.Entries.lean ====
/- The entries of the three band matrices, as numbers: the past and future weights on their diagonals. -/
module

public import proofs.«01_k».proof.Proof.Band

@[expose] public section

set_option maxRecDepth 16384

noncomputable section

namespace Cert.KernelIdeal.Body

open Cert.KernelIdeal.Gen
open Idealize.ShloMosaic Idealize.ShloMosaic.TcCoe Idealize.ShloMosaic.Tactic
open Idealize.SL.Sem
open Finset (range)

/-- The past weight `j`: the sum of row `j` of the past taps. -/
def wMem (x0 : FVec Ideal S50x2048 .f32) (j : ℕ) : EReal := ∑ d : Fin 2048, (x0 (ix2 ⟨j % 50, by omega⟩ d) : EReal)

/-- The future weight `j`: the sum of row `j` of the future taps. -/
def wLa (x1 : FVec Ideal S5x2048 .f32) (j : ℕ) : EReal := ∑ d : Fin 2048, (x1 (ix2 ⟨j % 5, by omega⟩ d) : EReal)

theorem onDiag_iff (n : ℕ) (hn : n < 100) (p : Fin 256) (q : Fin 328) :
    onDiag n (ix2 p q) = 1#1 ↔ q.val = p.val + 14 + n := by
  pointwise [onDiag, k0_pay4]
  word_cmp
  have hp := p.isLt
  have hq := q.isLt
  simp only [IntOp.subi, BitVec.toNat_sub, BitVec.toNat_ofNat, Nat.reducePow, Nat.reduceMod]
  omega

theorem onHead_iff (n : ℕ) (hn : n < 100) (p : Fin 256) (q : Fin 328) :
    onHead n (ix2 p q) = 1#1 ↔ q.val = 64 + n ∧ n < p.val ∧ p.val < 50 := by
  pointwise [onHead, rowNo, colNo]
  word_cmp

theorem tap_apply (c : IVec S256x328 1) (w : FVec Ideal S1x1 .f32) (p : Fin 256) (q : Fin 328) :
    (tap (F := Ideal) c w (ix2 p q) : EReal) = if c (ix2 p q) = 1#1 then (w (ix2 0 0) : EReal) else 0 := by
  pointwise [tap, zeros]
  rfl

theorem mem_weight (x0 : FVec Ideal S50x2048 .f32) (n : ℕ) :
    (extractStridedSlice S1x1 ![n % 50, 0] (k0_pay2 (F := Ideal) x0) (sliceMem n) (ix2 0 0) : EReal) = wMem x0 n := by
  pointwise! [k0_pay2, wMem]

theorem la_weight (x1 : FVec Ideal S5x2048 .f32) (n : ℕ) :
    (extractStridedSlice S1x1 ![n % 5, 0] (k0_pay3 (F := Ideal) x1) (sliceLa n) (ix2 0 0) : EReal) = wLa x1 n := by
  pointwise! [k0_pay3, wLa]

/-- The row itself and the first `n` past taps. -/
theorem memBand_apply (x0 : FVec Ideal S50x2048 .f32) (n : ℕ) (hn : n ≤ 50) (p : Fin 256) (q : Fin 328) :
    (memBand (F := Ideal) x0 n (ix2 p q) : EReal) = (if q.val = p.val + 64 then 1 else 0)
      + ∑ j ∈ range n, if q.val = p.val + 14 + j then wMem x0 j else 0 := by
  induction n with
  | zero =>
    have h : (memBand (F := Ideal) x0 0 (ix2 p q) : EReal) = if onDiag 50 (ix2 p q) = 1#1 then 1 else 0 := by
      pointwise [memBand, ones, zeros]
      rfl
    rw [h, Finset.sum_range_zero, add_zero]
    exact if_congr ((onDiag_iff 50 (by omega) p q).trans (by omega)) rfl rfl
  | succ n ih =>
    rw [Finset.sum_range_succ, ← add_assoc, ← ih (by omega)]
    refine (show (memBand (F := Ideal) x0 (n + 1) (ix2 p q) : EReal) = memBand (F := Ideal) x0 n (ix2 p q)
      + tap (F := Ideal) (onDiag n) (extractStridedSlice S1x1 ![n % 50, 0] (k0_pay2 x0) (sliceMem n)) (ix2 p q) from rfl).trans ?_
    rw [tap_apply, mem_weight]
    exact congrArg _ (if_congr (onDiag_iff n (by omega) p q) rfl rfl)

/-- With the first `n` future taps. -/
theorem fullBand_apply (x0 : FVec Ideal S50x2048 .f32) (x1 : FVec Ideal S5x2048 .f32) (n : ℕ) (hn : n ≤ 5) (p : Fin 256) (q : Fin 328) :
    (fullBand (F := Ideal) x0 x1 n (ix2 p q) : EReal) = (if q.val = p.val + 64 then 1 else 0)
      + (∑ j ∈ range 50, if q.val = p.val + 14 + j then wMem x0 j else 0)
      + ∑ k ∈ range n, if q.val = p.val + 65 + k then wLa x1 k else 0 := by
  induction n with
  | zero =>
    rw [Finset.sum_range_zero, add_zero]
    exact memBand_apply x0 50 (le_refl _) p q
  | succ n ih =>
    rw [Finset.sum_range_succ (n := n), ← add_assoc, ← ih (by omega)]
    refine (show (fullBand (F := Ideal) x0 x1 (n + 1) (ix2 p q) : EReal) = fullBand (F := Ideal) x0 x1 n (ix2 p q)
      + tap (F := Ideal) (onDiag (51 + n)) (extractStridedSlice S1x1 ![n % 5, 0] (k0_pay3 x1) (sliceLa n)) (ix2 p q) from rfl).trans ?_
    rw [tap_apply, la_weight]
    exact congrArg _ (if_congr ((onDiag_iff (51 + n) (by omega) p q).trans (by omega)) rfl rfl)

theorem fullBand_inner (x0 : FVec Ideal S50x2048 .f32) (x1 : FVec Ideal S5x2048 .f32) (p : Fin 256) (q : Fin 328) :
    (fullBand (F := Ideal) x0 x1 5 (ix2 p q) : EReal) = Cert.Band.inner (wMem x0) (wLa x1) p.val q.val :=
  fullBand_apply x0 x1 5 (le_refl _) p q

/-- The first rows' past taps. -/
theorem headBand_apply (x0 : FVec Ideal S50x2048 .f32) (n : ℕ) (hn : n ≤ 50) (p : Fin 256) (q : Fin 328) :
    (headBand (F := Ideal) x0 n (ix2 p q) : EReal)
      = ∑ j ∈ range n, if q.val = 64 + j ∧ j < p.val ∧ p.val < 50 then wMem x0 j else 0 := by
  induction n with
  | zero =>
    rw [Finset.sum_range_zero]
    pointwise [headBand, zeros]
  | succ n ih =>
    rw [Finset.sum_range_succ, ← ih (by omega)]
    refine (show (headBand (F := Ideal) x0 (n + 1) (ix2 p q) : EReal) = headBand (F := Ideal) x0 n (ix2 p q)
      + tap (F := Ideal) (onHead n) (extractStridedSlice S1x1 ![n % 50, 0] (k0_pay2 x0) (sliceMem n)) (ix2 p q) from rfl).trans ?_
    rw [tap_apply, mem_weight]
    exact congrArg _ (if_congr (onHead_iff n (by omega) p q) rfl rfl)

/-- A select between a matrix and zero, at an index. -/
theorem select_zeros (c : IVec S256x328 1) (a : FVec Ideal S256x328 .f32) (p : Fin 256) (q : Fin 328) :
    (select c a (zeros (F := Ideal)) (ix2 p q) : EReal) = if c (ix2 p q) = 1#1 then (a (ix2 p q) : EReal) else 0 := by
  pointwise [zeros]
  rfl

theorem store_apply (a : FVec Ideal S256x328 .f32) (p : Fin 256) (q : Fin 328) :
    (store (F := Ideal) a (ix3 0 p q) : EReal) = a (ix2 p q) := by
  pointwise [store]

/-- The matrix for the inside of a sequence. -/
theorem inside_apply (x0 : FVec Ideal S50x2048 .f32) (x1 : FVec Ideal S5x2048 .f32) (p : Fin 256) (q : Fin 328) :
    (inside (F := Ideal) x0 x1 (ix3 0 p q) : EReal) = Cert.Band.entry (wMem x0) (wLa x1) 0 p.val q.val := by
  unfold inside
  rw [store_apply, fullBand_inner]; rfl

theorem onStart_iff (p : Fin 256) (q : Fin 328) :
    ori (cmpi .sge rowNo (broadcast S256x328 50#32)) (cmpi .sge (subi colNo rowNo) (broadcast S256x328 64#32)) (ix2 p q) = 1#1
      ↔ 50 ≤ p.val ∨ p.val + 64 ≤ q.val := by
  pointwise [rowNo, colNo]
  word_cmp
  have hp := p.isLt
  have hq := q.isLt
  have h : IntOp.cmpi .sge (IntOp.subi (BitVec.ofNat 32 q.val) (BitVec.ofNat 32 p.val)) 64#32 = BitVec.ofBool (decide (p.val + 64 ≤ q.val)) := by
    have e : (BitVec.ofNat 32 q.val - BitVec.ofNat 32 p.val).toInt = (q.val : ℤ) - p.val := by
      rw [BitVec.toInt_sub, BitVec.toInt_ofNat', BitVec.toInt_ofNat']
      simp only [Int.bmod]
      omega
    have e64 : (64#32 : BitVec 32).toInt = 64 := rfl
    simp only [IntOp.cmpi, IntOp.subi, BitVec.sle, e, e64]
    congr 1
    simp only [decide_eq_decide]
    omega
  rw [h]
  word_cmp

/-- The matrix for the start of a sequence. -/
theorem start_apply (x0 : FVec Ideal S50x2048 .f32) (x1 : FVec Ideal S5x2048 .f32) (p : Fin 256) (q : Fin 328) :
    (start (F := Ideal) x0 x1 (ix3 0 p q) : EReal) = Cert.Band.entry (wMem x0) (wLa x1) 1 p.val q.val := by
  unfold start
  rw [store_apply]
  refine (show _ = (select _ (fullBand (F := Ideal) x0 x1 5) (zeros (F := Ideal)) (ix2 p q) : EReal)
    + headBand (F := Ideal) x0 49 (ix2 p q) from rfl).trans ?_
  rw [select_zeros, headBand_apply _ _ (by omega), fullBand_inner]
  exact congrArg (· + _) (if_congr (onStart_iff p q) rfl rfl)

theorem onFinish_iff (p : Fin 256) (q : Fin 328) :
    cmpi .slt colNo (broadcast S256x328 320#32) (ix2 p q) = 1#1 ↔ q.val < 320 := by
  pointwise [colNo]
  word_cmp

/-- The matrix for the end of a sequence. -/
theorem finish_apply (x0 : FVec Ideal S50x2048 .f32) (x1 : FVec Ideal S5x2048 .f32) (p : Fin 256) (q : Fin 328) :
    (finish (F := Ideal) x0 x1 (ix3 0 p q) : EReal) = Cert.Band.entry (wMem x0) (wLa x1) 2 p.val q.val := by
  unfold finish
  rw [store_apply, select_zeros, fullBand_inner]
  exact if_congr (onFinish_iff p q) rfl rfl

end Cert.KernelIdeal.Body

end
-- ==== Proof.RefValue.lean ====
/- The reference's result at an index: the layer normalisation of a row that is the projected row plus its past and its
   future context. -/
module

public import proofs.«01_k».proof.Proof.RefTaps
public import proofs.«01_k».proof.Proof.Block
public import proofs.«01_k».proof.Proof.Entries

@[expose] public section

set_option maxRecDepth 16384

noncomputable section

namespace Cert.ReferenceIdeal.Taps

open Cert.ReferenceIdeal Cert.ReferenceIdeal.Gen Cert.ReferenceIdeal.Facts Cert.ReferenceIdeal.Read
open Cert.KernelIdeal.Body (layerNorm avg wMem wLa)
open Idealize.ShloMosaic Idealize.ShloMosaic.TcCoe Idealize.ShloMosaic.Tactic
open Idealize.SL.Sem
open Finset (range)

variable (x0 : FVec Ideal S8x2048x1024 .f32) (x1 : FVec Ideal S2048x1024 .f32) (x2 : FVec Ideal S2048 .f32)
  (x3 : FVec Ideal S50x2048 .f32) (x4 : FVec Ideal S5x2048 .f32) (x5 x6 : FVec Ideal S2048 .f32)

/-- Row `t` of sequence `n` of the input, projected: feature `o`. -/
def hAt (n : Fin 8) (o : Fin 2048) (t : ℕ) : EReal :=
  (∑ d : Fin 1024, (x0 (ix3 n ⟨t % 2048, by omega⟩ d) * x1 (ix2 o d) : EReal)) + x2 (ix1 o)

/-- The row the reference normalises: the projected row, its past context and its future context. -/
def refRow (n : Fin 8) (l o : Fin 2048) : EReal :=
  hAt x0 x1 x2 n o l.val
    + (if l.val < 50 then ∑ k ∈ range l.val, wMem x3 k * hAt x0 x1 x2 n o k
       else ∑ j ∈ range 50, wMem x3 j * hAt x0 x1 x2 n o (l.val - 50 + j))
    + ∑ k ∈ range 5, if l.val + 1 + k < 2048 then wLa x4 k * hAt x0 x1 x2 n o (l.val + 1 + k) else 0

theorem v3_apply (n : Fin 8) (r o : Fin 2048) :
    (val_main_v3 (F := Ideal) x0 x1 x2 (ix3 n r o) : EReal) = hAt x0 x1 x2 n o r.val := by
  have e : (⟨r.val % 2048, by omega⟩ : Fin 2048) = r := Fin.ext (Nat.mod_eq_of_lt r.isLt)
  unfold hAt
  rw [e]
  pointwise! [val_main_v3, val_main_v0, val_main_v2, val_main_v1]

theorem v4_apply (j : ℕ) : (val_main_v4 (F := Ideal) x3 (ix1 ⟨j % 50, by omega⟩) : EReal) = wMem x3 j := by
  pointwise! [val_main_v4, val_main_cst, wMem]

theorem v5_apply (j : ℕ) : (val_main_v5 (F := Ideal) x4 (ix1 ⟨j % 5, by omega⟩) : EReal) = wLa x4 j := by
  pointwise! [val_main_v5, val_main_cst_0, wLa]

theorem sitofp_zero : (FloatOps.sitofp (F := Ideal) .f32 (0#32) : EReal) = 0 := by
  show (((0#32 : BitVec 32).toInt : ℝ) : EReal) = 0
  simp

/-- The word that counts a row's elements is the number 2048. -/
theorem count_eq : Ideal.ofBits .f32 0x45000000#32 = ((2048 : ℝ) : EReal) := by
  simp [Ideal.ofBits, Ideal.ieee, -EReal.coe_mul]; norm_num

theorem v6_apply (n : Fin 8) (k : Fin 2098) (o : Fin 2048) :
    (val_main_v6 (F := Ideal) x0 x1 x2 (ix3 n k o) : EReal) = if k.val < 50 then 0 else hAt x0 x1 x2 n o (k.val - 50) := by
  pointwise [val_main_v6, val_main_call0_v0, val_main_c]
  rw [sitofp_zero]
  have hk := k.isLt
  by_cases h : k.val < 50
  · rw [if_pos h, dif_neg (by omega)]
  · rw [if_neg h, dif_pos (by omega)]
    exact v3_apply x0 x1 x2 n ⟨k.val - 50, by omega⟩ o

theorem v317_apply (n : Fin 8) (k : Fin 2053) (o : Fin 2048) :
    (val_main_v317 (F := Ideal) x0 x1 x2 (ix3 n k o) : EReal) = if k.val < 2048 then hAt x0 x1 x2 n o k.val else 0 := by
  pointwise [val_main_v317, val_main_call2_v0, val_main_c_2]
  rw [sitofp_zero]
  by_cases h : k.val < 2048
  · rw [if_pos h, dif_pos h]
    exact v3_apply x0 x1 x2 n ⟨k.val, h⟩ o
  · rw [if_neg h, dif_neg h]

theorem v310_apply (n : Fin 8) (k : Fin 50) (o : Fin 2048) :
    (val_main_v310 (F := Ideal) x0 x1 x2 x3 (ix3 n k o) : EReal) = wMem x3 k.val * hAt x0 x1 x2 n o k.val := by
  have e : (⟨k.val % 50, by omega⟩ : Fin 50) = k := Fin.ext (Nat.mod_eq_of_lt k.isLt)
  have h := v3_apply x0 x1 x2 n ⟨k.val, by omega⟩ o
  have h4 := v4_apply x3 k.val
  rw [e] at h4
  rw [mul_comm, ← h, ← h4]
  pointwise! [val_main_v310, val_main_v307, val_main_v309, val_main_v308]

/-- The weighted running sum of the first fifty rows. -/
theorem v311_apply (n : Fin 8) (r : Fin 50) (o : Fin 2048) :
    (val_main_v311 (F := Ideal) x0 x1 x2 x3 (ix3 n r o) : EReal) = ∑ k ∈ range (r.val + 1), wMem x3 k * hAt x0 x1 x2 n o k :=
  cumsum_apply _ _ (by pointwise! [val_main_call1_call0_v0, val_main_call1_call0_cst]) (fun k => wMem x3 k * hAt x0 x1 x2 n o k) n r o
    (v310_apply x0 x1 x2 x3 n · o)

/-- The past context: a running sum on the first fifty rows, the fifty taps behind it after that. -/
theorem v316_apply (n : Fin 8) (l o : Fin 2048) :
    (val_main_v316 (F := Ideal) x0 x1 x2 x3 (ix3 n l o) : EReal)
      = if l.val < 50 then ∑ k ∈ range l.val, wMem x3 k * hAt x0 x1 x2 n o k
        else ∑ j ∈ range 50, wMem x3 j * hAt x0 x1 x2 n o (l.val - 50 + j) := by
  pointwise [val_main_v316, val_main_v314, val_main_v313, val_main_v312, val_main_cst_1, val_main_v315, val_main_v306]
  by_cases h : l.val < 50
  · rw [if_pos h, dif_pos h]
    by_cases h1 : l.val < 1
    · rw [dif_pos h1, show l.val = 0 by omega, Finset.sum_range_zero]
    · rw [dif_neg h1, v311_apply]
      show ∑ k ∈ range (l.val - 1 + 1), _ = _
      rw [show l.val - 1 + 1 = l.val by omega]
  · rw [if_neg h, dif_neg h]
    refine (congrFun (mem_chain (F := Ideal) x0 x1 x2 x3) _).trans ((chain_apply _ _ _).trans ?_)
    refine Finset.sum_congr rfl fun j hj => ?_
    have hj' := Finset.mem_range.1 hj
    rw [memTap_apply, v4_apply, v6_apply, if_neg (by show ¬ j % 50 + (50 + (l.val - 50)) < 50; omega)]
    show _ * hAt x0 x1 x2 n o (j % 50 + (50 + (l.val - 50)) - 50) = _
    rw [show j % 50 + (50 + (l.val - 50)) - 50 = l.val - 50 + j by omega]

/-- The future context. -/
theorem v347_apply (n : Fin 8) (l o : Fin 2048) :
    (val_main_v347 (F := Ideal) x0 x1 x2 x4 (ix3 n l o) : EReal) =
     ∑ k ∈ range 5, if l.val + 1 + k < 2048 then wLa x4 k * hAt x0 x1 x2 n o (l.val + 1 + k) else 0 := by
  have h : (val_main_v347 (F := Ideal) x0 x1 x2 x4 (ix3 n l o) : EReal)
     = val_main_v346 (F := Ideal) x0 x1 x2 x4 (ix3 n ⟨1 + l.val, by omega⟩ o) := by pointwise! [val_main_v347]
  rw [h, la_chain, chain_apply]
  refine Finset.sum_congr rfl fun j hj => ?_
  have hj' := Finset.mem_range.1 hj
  rw [laTap_apply, v5_apply, v317_apply, mul_ite, mul_zero]
  show (if j % 5 + (1 + l.val) < 2048 then wLa x4 j * hAt x0 x1 x2 n o (j % 5 + (1 + l.val)) else 0) = _
  rw [show j % 5 + (1 + l.val) = l.val + 1 + j by omega]

/-- The row before the normalisation. -/
theorem v349_apply (n : Fin 8) (l o : Fin 2048) :
    (val_main_v349 (F := Ideal) x0 x1 x2 x3 x4 (ix3 n l o) : EReal) = refRow x0 x1 x2 x3 x4 n l o := by
  unfold refRow
  rw [← v347_apply, ← v316_apply, ← v3_apply]
  rfl

/-- The result: the row, normalised. -/
theorem v367_apply (n : Fin 8) (l o : Fin 2048) :
    (val_main_v367 (F := Ideal) x0 x1 x2 x3 x4 x5 x6 (ix3 n l o) : EReal)
      = layerNorm (fun o' => val_main_v349 (F := Ideal) x0 x1 x2 x3 x4 (ix3 n l o')) (x5 (ix1 o)) (x6 (ix1 o)) o := by
  pointwise [val_main_v367, val_main_v364, val_main_v366, val_main_v365, val_main_v363, val_main_v362, val_main_v361, val_main_v360,
    val_main_v359, val_main_v358, val_main_v357, val_main_v356, val_main_v355, val_main_v354, val_main_v353, val_main_v352, val_main_v351,
    val_main_v350, val_main_cst_3, val_main_cst_4, val_main_cst_6, val_main_call3_call0_v1, val_main_call3_call0_v0, val_main_call3_cst_4,
    val_main_call3_v13, val_main_call3_cst_3, val_main_call3_v12, val_main_call3_v11, val_main_call3_v10, val_main_call3_v9, val_main_call3_cst_2,
    val_main_call3_v8, val_main_call3_cst_1, val_main_call3_v7, val_main_call3_v6, val_main_call3_v5, val_main_call3_v4, val_main_call3_v3,
    val_main_call3_v2, val_main_call3_cst_0, val_main_call3_v1, val_main_call3_v0, val_main_call3_cst, val_main_c_5, layerNorm, avg]
  have e : Ideal.ofBits .f32 0x45000000#32 - FloatOps.sitofp (F := Ideal) .f32 (0#32) = Ideal.ofBits .f32 0x45000000#32 := by
    rw [sitofp_zero, sub_zero]
  rw [e, if_pos (by rw [count_eq]; exact EReal.coe_pos.2 (by norm_num))]

/-- The reference's result as a whole. -/
theorem reference_eq :
    val_main_v367 (F := Ideal) x0 x1 x2 x3 x4 x5 x6
      = fun j => layerNorm (refRow x0 x1 x2 x3 x4 (j 0) (j 1)) (x5 (ix1 (j 2))) (x6 (ix1 (j 2))) (j 2) := by
  funext j
  have h := v367_apply x0 x1 x2 x3 x4 x5 x6 (j 0) (j 1) (j 2)
  rw [funext fun o' => v349_apply x0 x1 x2 x3 x4 (j 0) (j 1) o'] at h
  exact (congrArg (val_main_v367 (F := Ideal) x0 x1 x2 x3 x4 x5 x6) (eq_ix3 j)).trans h

end Cert.ReferenceIdeal.Taps

end
-- ==== Proof.Outputs.lean ====
/- What the kernel leaves in its output array, as a function of the seven arguments. -/
module

public import proofs.«01_k».proof.Proof.Block
public import proofs.«01_k».proof.Proof.Entries
public import Idealize.ShloMosaic.Lib.Pipeline.ValueKit

@[expose] public section

set_option maxRecDepth 16384

noncomputable section

namespace Cert.KernelIdeal.Body

open Cert.KernelIdeal.Gen
open Idealize.ShloMosaic Idealize.ShloMosaic.TcCoe Idealize.ShloMosaic.Tactic
open Idealize.SL.Sem
open Idealize.ShloMosaic.Pipeline (Dat)

/-! ## The band matrices read back -/

section Generic

variable {F : FTy → Type} [FloatOps F]

/-- A load of a whole buffer reads its contents. -/
theorem load_whole {s : Shape} {e : EltTy} (a : Memref sig .tc .vmem s e) (h : a.IsWhole) (off : Fin s.rank → ℕ)
    (h0 : off = fun _ => 0) (inb : ∀ d, off d + s.size d ≤ s.size d) (x : Vec F s e) :
    View.readAt (Elt F) a.view (Rect.unit off s.size inb).toLoadRect (h.unread x) = x := by
  rw [View.readAt_eq_ld, h.read_unread, View.ld_unit_zero h0]

theorem zero2 : (![0, 0] : Fin 2 → ℕ) = fun _ => 0 := by decide
theorem zero3 : (![0, 0, 0] : Fin 3 → ℕ) = fun _ => 0 := by decide

/-- The band matrix at the place the body loads it from, for sub-block `k`. -/
def slabOf (i : grid0.Coords) (B : Vec F S3x256x328 .bf16) : ℕ → Vec F S1x256x328 .bf16
  | 0 => fun j => B ((Rect.unit (s := S3x256x328) (k0_off1 i 0#32 1#32) S1x256x328.size (k0_off1_inb i 0)).toLoadRect.idx j)
  | 3 => fun j => B ((Rect.unit (s := S3x256x328) (k0_off1 i 1#32 2#32) S1x256x328.size (k0_off1_inb i 1)).toLoadRect.idx j)
  | _ => fun j => B ((Rect.unit (s := S3x256x328) ![0, 0, 0] S1x256x328.size inb_S3x256x328_S1x256x328_0_0_0).toLoadRect.idx j)

theorem firstSlab_eq (i : grid0.Coords) (a : Memref sig .tc .vmem S3x256x328 .bf16) (L : List (View.Piece (Elt F) S3x256x328 .bf16)) :
    firstSlab i a L = slabOf i (View.canon L) := by
  funext k
  unfold firstSlab slabOf
  rcases k with _ | _ | _ | _ | k <;> exact View.readCov_eq_canon' (Val := Elt F) _ _ _

theorem readAt_unread {s : Shape} {e : EltTy} (a : Memref sig .tc .vmem s e) (h : a.IsWhole) (B : LoadRect s) (x : Vec F s e) :
    View.readAt (Elt F) a.view B (h.unread x) = fun j => x (B.idx j) := by
  show (fun j => a.view.read (Elt F) (h.unread x) (B.idx j)) = _
  rw [h.read_unread]

theorem laterSlab_eq (i : grid0.Coords) (a : Memref sig .tc .vmem S3x256x328 .bf16) (h : a.IsWhole) (xs : Vec F S3x256x328 .bf16) :
    laterSlab (F := F) i a h xs = slabOf i xs := by
  funext k
  unfold laterSlab slabOf
  rcases k with _ | _ | _ | _ | k <;> exact readAt_unread (F := F) a h _ _

variable (m : (ℓ : Loc nD τ sig) → Buf (Elt F) ℓ)

/-- The three matrices as pieces. -/
def bandPieces (x0 : Vec F S50x2048 .f32) (x1 : Vec F S5x2048 .f32) : List (View.Piece (Elt F) S3x256x328 .bf16) :=
  [⟨Rect.unit ![2, 0, 0] S1x256x328.size inb_S3x256x328_S1x256x328_2_0_0, finish x0 x1⟩,
   ⟨Rect.unit ![1, 0, 0] S1x256x328.size inb_S3x256x328_S1x256x328_1_0_0, start x0 x1⟩,
   ⟨Rect.unit ![0, 0, 0] S1x256x328.size inb_S3x256x328_S1x256x328_0_0_0, inside x0 x1⟩]

/-- The first point's band scratch. -/
theorem runFirst_bands (c : Dev nD) (t : Fin cfg0.N) (h : t.val = 0) :
    (runFirst m c t h).1 = bandPieces (iblk m c 0 t) (iblk m c 1 t) := by
  refine (firstRun_bands ..).trans ?_
  rw [load_whole _ _ _ zero2, load_whole _ _ _ zero2]
  rfl

theorem band_eq (c : Dev nD) : band m c = View.canon (bandPieces (iblk m c 0 t0) (iblk m c 1 t0)) := by
  unfold band
  rw [View.read_writes_junk_eq_canon, runFirst_bands]

/-- The pieces of the output block at any point, over the band matrices `B`. -/
def outPieces (c : Dev nD) (t : Fin cfg0.N) (B : Vec F S3x256x328 .bf16) : List (View.Piece (Elt F) S1x1024x2048 .f32) :=
  piecesO sc1.view sc2.view (slabOf (grid0.coords t) B) (k0_pay82 (iblk m c 2 t) (iblk m c 3 t) (iblk m c 4 t))
    (iblk m c 5 t) (iblk m c 6 t) (iblk m c 7 t) (iblk m c 8 t) 32

theorem runFirst_out (c : Dev nD) (t : Fin cfg0.N) (h : t.val = 0) :
    (runFirst m c t h).2.1 = outPieces m c t (View.canon (runFirst m c t h).1) := by
  refine (firstRun_pieces ..).trans ?_
  unfold outPieces rows3 weights biasRow gammaRow betaRow
  rw [load_whole _ _ _ zero3, load_whole _ _ _ zero3, load_whole _ _ _ zero3, load_whole _ _ _ zero2, load_whole _ _ _ zero2,
    load_whole _ _ _ zero2, load_whole _ _ _ zero2, firstSlab_eq]

theorem runLater_out (c : Dev nD) (t : Fin cfg0.N) (h : ¬t.val = 0) (xs : Vec F S3x256x328 .bf16) :
    (runLater m c t h xs).1 = outPieces m c t xs := by
  refine (laterRun_pieces ..).trans ?_
  unfold outPieces rows3 weights biasRow gammaRow betaRow
  rw [load_whole _ _ _ zero3, load_whole _ _ _ zero3, load_whole _ _ _ zero3, load_whole _ _ _ zero2, load_whole _ _ _ zero2,
    load_whole _ _ _ zero2, load_whole _ _ _ zero2, laterSlab_eq]

/-- The output block at any point, first or later. -/
theorem outAt_eq (c : Dev nD) (t : Fin cfg0.N) :
    outAt m c t = View.canon (outPieces m c t (View.canon (bandPieces (iblk m c 0 t0) (iblk m c 1 t0)))) := by
  by_cases h : t.val = 0
  · obtain rfl : t = t0 := Fin.ext h
    rw [show outAt m c t0 = VO.read (Elt F) (VO.writes (Elt F) VO.junk (runFirst m c t0 h).2.1) from dif_pos h,
      View.read_writes_junk_eq_canon, runFirst_out, runFirst_bands]
  · rw [show outAt m c t = VO.read (Elt F) (VO.writes (Elt F) VO.junk (runLater m c t h (band m c)).1) from dif_neg h,
      View.read_writes_junk_eq_canon, runLater_out, band_eq]

end Generic

/-! ## As numbers -/

/-- A list of pieces that starts with a whole matrix `k`, read at matrix `s`. -/
theorem canon_slot (L : List (View.Piece (Elt Ideal) S3x256x328 .bf16)) (k : ℕ)
    (inb : ∀ a, (![k, 0, 0] : Fin 3 → ℕ) a + S1x256x328.size a ≤ S3x256x328.size a) (w : FVec Ideal S1x256x328 .bf16)
    (s : Fin 3) (p : Fin 256) (q : Fin 328) :
    (View.canon (⟨Rect.unit (s := S3x256x328) ![k, 0, 0] S1x256x328.size inb, w⟩ :: L) (ix3 s p q) : EReal)
      = if s.val = k then w (ix3 0 p q) else View.canon L (ix3 s p q) := by
  by_cases h : s.val = k
  · have e : (ix3 s p q : S3x256x328.Idx) = (Rect.unit (s := S3x256x328) ![k, 0, 0] S1x256x328.size inb).emb (ix3 0 p q : S1x256x328.Idx) := by
      funext a; apply Fin.ext
      match a with
      | ⟨0, _⟩ => show s.val = k + 1 * 0; omega
      | ⟨1, _⟩ => show p.val = 0 + 1 * p.val; omega
      | ⟨2, _⟩ => show q.val = 0 + 1 * q.val; omega
    rw [if_pos h, e]
    exact View.canon_cons_emb _ _ _ _
  · rw [if_neg h, View.canon_cons_of_not_mem]
    intro hm
    obtain ⟨x, -, hx⟩ := Finset.mem_map.mp (by rwa [Rect.map_emb_univ] : _ ∈ Finset.univ.map
      (Rect.unit (s := S3x256x328) ![k, 0, 0] S1x256x328.size inb).emb)
    have h1 : k + 1 * (x 0).val = s.val := congrArg Fin.val (congrFun hx 0)
    have h2 : (x 0).val < 1 := (x 0).isLt
    omega

/-- The band scratch at matrix `s`, row `p`, column `q`. -/
theorem canon_band (x0 : FVec Ideal S50x2048 .f32) (x1 : FVec Ideal S5x2048 .f32) (s : Fin 3) (p : Fin 256) (q : Fin 328) :
    (View.canon (bandPieces (F := Ideal) x0 x1) (ix3 s p q) : EReal) = Cert.Band.entry (wMem x0) (wLa x1) s.val p.val q.val := by
  have e2 := canon_slot [⟨Rect.unit ![1, 0, 0] S1x256x328.size inb_S3x256x328_S1x256x328_1_0_0, start (F := Ideal) x0 x1⟩,
   ⟨Rect.unit ![0, 0, 0] S1x256x328.size inb_S3x256x328_S1x256x328_0_0_0, inside (F := Ideal) x0 x1⟩] 2
    inb_S3x256x328_S1x256x328_2_0_0 (finish (F := Ideal) x0 x1) s p q
  have e1 := canon_slot [⟨Rect.unit ![0, 0, 0] S1x256x328.size inb_S3x256x328_S1x256x328_0_0_0, inside (F := Ideal) x0 x1⟩] 1
    inb_S3x256x328_S1x256x328_1_0_0 (start (F := Ideal) x0 x1) s p q
  have e0 := canon_slot [] 0 inb_S3x256x328_S1x256x328_0_0_0 (inside (F := Ideal) x0 x1) s p q
  rw [finish_apply] at e2
  rw [start_apply] at e1
  rw [inside_apply] at e0
  refine e2.trans ?_
  by_cases h2 : s.val = 2
  · rw [if_pos h2, h2]
  rw [if_neg h2]
  refine e1.trans ?_
  by_cases h1 : s.val = 1
  · rw [if_pos h1, h1]
  rw [if_neg h1]
  refine e0.trans ?_
  have h0 : s.val = 0 := by omega
  rw [if_pos h0, h0]

/-- Where sub-block 0 and sub-block 3 load their matrix from. -/
theorem off_first (i : grid0.Coords) : k0_off1 i 0#32 1#32 = ![Cert.Band.slab (i 1).val 0, 0, 0] := by
  revert i; decide +kernel
theorem off_last (i : grid0.Coords) : k0_off1 i 1#32 2#32 = ![Cert.Band.slab (i 1).val 3, 0, 0] := by
  revert i; decide +kernel

theorem slab_lt (i k : ℕ) : Cert.Band.slab i k < 3 := by unfold Cert.Band.slab; split_ifs <;> omega

/-- The band matrix of sub-block `k` at row `p`, column `q`. -/
theorem slabOf_apply (i : grid0.Coords) (B : FVec Ideal S3x256x328 .bf16) (k : ℕ) (hk : k < 4) (p : Fin 256) (q : Fin 328) :
    (slabOf (F := Ideal) i B k (ix3 0 p q) : EReal) = B (ix3 ⟨Cert.Band.slab (i 1).val k, slab_lt _ _⟩ p q) := by
  have key : ∀ (off : Fin 3 → ℕ) (s : ℕ) (hs : s < 3) (inb : ∀ a, off a + S1x256x328.size a ≤ S3x256x328.size a), off = ![s, 0, 0] →
      (Rect.unit (s := S3x256x328) off S1x256x328.size inb).toLoadRect.idx (ix3 0 p q : S1x256x328.Idx) = (ix3 ⟨s, hs⟩ p q : S3x256x328.Idx) := by
    intro off s hs inb ho
    subst ho
    funext a; apply Fin.ext
    match a with
    | ⟨0, _⟩ => show s + 1 * 0 = s; omega
    | ⟨1, _⟩ => show 0 + 1 * p.val = p.val; omega
    | ⟨2, _⟩ => show 0 + 1 * q.val = q.val; omega
  match k, hk with
  | 0, _ => exact congrArg B (key _ _ _ _ (off_first i))
  | 1, _ => exact congrArg B (key _ _ (slab_lt _ _) _ rfl)
  | 2, _ => exact congrArg B (key _ _ (slab_lt _ _) _ rfl)
  | 3, _ => exact congrArg B (key _ _ _ _ (off_last i))

/-- The extended block at row `e`: 64 rows before, 1024 rows, 8 rows after. -/
theorem ext_apply (xl : FVec Ideal S1x64x1024 .f32) (xc : FVec Ideal S1x1024x1024 .f32) (xr : FVec Ideal S1x8x1024 .f32) (e : Fin 1096) (d : Fin 1024) :
    (k0_pay82 (F := Ideal) xl xc xr (ix2 e d) : EReal) = if h : e.val < 64 then xl (ix3 0 ⟨e.val, h⟩ d)
      else if h' : e.val < 1088 then xc (ix3 0 ⟨e.val - 64, by omega⟩ d) else xr (ix3 0 ⟨e.val - 1088, by omega⟩ d) := by
  pointwise [k0_pay82]
  by_cases h : e.val < 64
  · rw [dif_pos h, dif_pos h]
  · rw [dif_neg h, dif_neg h]
    by_cases h' : e.val < 1088
    · rw [dif_pos h', dif_pos (by omega)]
    · rw [dif_neg h', dif_neg (by omega)]
      exact congrArg (fun e' => xr (ix3 0 e' d)) (Fin.ext (by show e.val - 64 - 1024 = e.val - 1088; omega))

/-! ## The blocks of the arguments -/

/-- The windows' index maps: point `t` is half `t % 2` of sequence `t / 2`. -/
theorem idx : ∀ t : Fin cfg0.N, win0_0.index t = ![0, 0] ∧ win0_1.index t = ![0, 0]
    ∧ win0_2.index t = ![t.val / 2, 16 * (t.val % 2) - 1, 0] ∧ win0_3.index t = ![t.val / 2, t.val % 2, 0]
    ∧ win0_4.index t = ![t.val / 2, min ((t.val % 2 + 1) * 128) 255, 0] ∧ win0_5.index t = ![0, 0]
    ∧ win0_6.index t = ![0, 0] ∧ win0_7.index t = ![0, 0] ∧ win0_8.index t = ![0, 0]
    ∧ win0_9.index t = ![t.val / 2, t.val % 2, 0] :=
  (by decide +kernel : ∀ t : Fin grid0.N, _)

/-- The half a grid point works on. -/
theorem half : ∀ t : Fin cfg0.N, (grid0.coords t 1).val = t.val % 2 := (by decide +kernel : ∀ t : Fin grid0.N, _)

section Blocks

variable (m : (ℓ : Loc nD τ sig) → Buf (Elt Ideal) ℓ) (c : Dev nD)

/-- The arguments, at their types. -/
abbrev argX : FVec Ideal S8x2048x1024 .f32 := m ((c : Thread nD τ).loc main_arg0)
abbrev argW : FVec Ideal S2048x1024 .f32 := m ((c : Thread nD τ).loc main_arg1)
abbrev argB : FVec Ideal S2048 .f32 := m ((c : Thread nD τ).loc main_arg2)
abbrev argMem : FVec Ideal S50x2048 .f32 := m ((c : Thread nD τ).loc main_arg3)
abbrev argLa : FVec Ideal S5x2048 .f32 := m ((c : Thread nD τ).loc main_arg4)
abbrev argG : FVec Ideal S2048 .f32 := m ((c : Thread nD τ).loc main_arg5)
abbrev argBt : FVec Ideal S2048 .f32 := m ((c : Thread nD τ).loc main_arg6)

theorem blk0 (t : Fin cfg0.N) : iblk m c 0 t = argMem m c := by blk_ext! [iblk, V, idx t]
theorem blk1 (t : Fin cfg0.N) : iblk m c 1 t = argLa m c := by blk_ext! [iblk, V, idx t]

theorem lt16 (t : Fin cfg0.N) : t.val < 16 := Nat.lt_of_lt_of_eq t.isLt N_0

theorem blk2 (t : Fin cfg0.N) (r : Fin 64) (d : Fin 1024) :
    iblk m c 2 t (ix3 0 r d) = argX m c (ix3 ⟨t.val / 2, by have := lt16 t; omega⟩ ⟨64 * (16 * (t.val % 2) - 1) + r.val, by omega⟩ d) := by
  blk_ext [iblk, V, idx t]

theorem blk3 (t : Fin cfg0.N) (r : Fin 1024) (d : Fin 1024) :
    iblk m c 3 t (ix3 0 r d) = argX m c (ix3 ⟨t.val / 2, by have := lt16 t; omega⟩ ⟨1024 * (t.val % 2) + r.val, by omega⟩ d) := by
  blk_ext [iblk, V, idx t]

theorem blk4 (t : Fin cfg0.N) (r : Fin 8) (d : Fin 1024) :
    iblk m c 4 t (ix3 0 r d) = argX m c (ix3 ⟨t.val / 2, by have := lt16 t; omega⟩ ⟨8 * min ((t.val % 2 + 1) * 128) 255 + r.val, by omega⟩ d) := by
  blk_ext [iblk, V, idx t]

theorem blk5 (t : Fin cfg0.N) (o : Fin 2048) (d : Fin 1024) :
    (iblk m c 5 t (ix2 o d) : EReal) = argW m c (ix2 o d) := by
  blk_simp [iblk, idx t]
  entry_read
  show argW m c _ = _
  blk_ext [idx t]

theorem blk6 (t : Fin cfg0.N) (o : Fin 2048) : (iblk m c 6 t (ix2 0 o) : EReal) = argB m c (ix1 o) := by
  blk_simp [iblk, idx t]
  entry_read
  pointwise
  blk_ext [idx t]

theorem blk7 (t : Fin cfg0.N) (o : Fin 2048) : (iblk m c 7 t (ix2 0 o) : EReal) = argG m c (ix1 o) := by
  blk_simp [iblk, idx t]
  entry_read
  pointwise
  blk_ext [idx t]

theorem blk8 (t : Fin cfg0.N) (o : Fin 2048) : (iblk m c 8 t (ix2 0 o) : EReal) = argBt m c (ix1 o) := by
  blk_simp [iblk, idx t]
  entry_read
  pointwise
  blk_ext [idx t]

theorem rowOf_lt (i e : ℕ) (hi : i < 2) (he : e < 1096) : Cert.Band.rowOf i e < 2048 := by
  unfold Cert.Band.rowOf; split_ifs <;> omega

/-- The extended block is rows of the sequence. -/
theorem ext_row (t : Fin cfg0.N) (e : Fin 1096) (d : Fin 1024) :
    (k0_pay82 (F := Ideal) (iblk m c 2 t) (iblk m c 3 t) (iblk m c 4 t) (ix2 e d) : EReal)
      = argX m c (ix3 ⟨t.val / 2, by have := lt16 t; omega⟩ ⟨Cert.Band.rowOf (t.val % 2) e.val, rowOf_lt _ _ (by omega) e.isLt⟩ d) := by
  rw [ext_apply]
  have he := e.isLt
  by_cases h : e.val < 64
  · rw [dif_pos h]
    refine (blk2 m c t ⟨e.val, h⟩ d).trans (congrArg (fun r => argX m c (ix3 _ r d)) (Fin.ext ?_))
    show 64 * (16 * (t.val % 2) - 1) + e.val = Cert.Band.rowOf (t.val % 2) e.val
    rw [Cert.Band.rowOf, if_pos h]
  · rw [dif_neg h]
    by_cases h' : e.val < 1088
    · rw [dif_pos h']
      refine (blk3 m c t ⟨e.val - 64, by omega⟩ d).trans (congrArg (fun r => argX m c (ix3 _ r d)) (Fin.ext ?_))
      show 1024 * (t.val % 2) + (e.val - 64) = Cert.Band.rowOf (t.val % 2) e.val
      rw [Cert.Band.rowOf, if_neg h, if_pos h']
    · rw [dif_neg h']
      refine (blk4 m c t ⟨e.val - 1088, by omega⟩ d).trans (congrArg (fun r => argX m c (ix3 _ r d)) (Fin.ext ?_))
      show 8 * min ((t.val % 2 + 1) * 128) 255 + (e.val - 1088) = Cert.Band.rowOf (t.val % 2) e.val
      rw [Cert.Band.rowOf, if_neg h, if_neg h']

end Blocks

/-! ## The output array -/

/-- Row `l` of sequence `n` before the normalisation, as the kernel computes it: with `i` the half, `k` the sub-block
    and `p` the row in it, the band matrix's row times the rows it covers, then the weights, then the bias. -/
def mixRow (X : FVec Ideal S8x2048x1024 .f32) (W : FVec Ideal S2048x1024 .f32) (b : FVec Ideal S2048 .f32)
    (mw : FVec Ideal S50x2048 .f32) (lw : FVec Ideal S5x2048 .f32) (n : Fin 8) (l o : Fin 2048) : EReal :=
  (∑ d : Fin 1024, (∑ q : Fin 328,
      Cert.Band.entry (wMem mw) (wLa lw) (Cert.Band.slab (l.val / 1024) (l.val % 1024 / 256)) (l.val % 256) q.val
        * X (ix3 n ⟨Cert.Band.rowOf (l.val / 1024) (256 * (l.val % 1024 / 256) + q.val), rowOf_lt _ _ (by omega) (by omega)⟩ d))
      * W (ix2 o d))
    + (∑ q : Fin 328,
      Cert.Band.entry (wMem mw) (wLa lw) (Cert.Band.slab (l.val / 1024) (l.val % 1024 / 256)) (l.val % 256) q.val) * b (ix1 o)

/-- The kernel's result. -/
def kernelOut (X : FVec Ideal S8x2048x1024 .f32) (W : FVec Ideal S2048x1024 .f32) (b : FVec Ideal S2048 .f32)
    (mw : FVec Ideal S50x2048 .f32) (lw : FVec Ideal S5x2048 .f32) (g bt : FVec Ideal S2048 .f32) : FVec Ideal S8x2048x2048 .f32 :=
  fun j => layerNorm (mixRow X W b mw lw (j 0) (j 1)) (g (ix1 (j 2))) (bt (ix1 (j 2))) (j 2)

section Final

variable (m : (ℓ : Loc nD τ sig) → Buf (Elt Ideal) ℓ) (c : Dev nD)

/-- The kernel's result over the arguments in memory. -/
abbrev result : FVec Ideal S8x2048x2048 .f32 :=
  kernelOut (argX m c) (argW m c) (argB m c) (argMem m c) (argLa m c) (argG m c) (argBt m c)

/-- Row `y` of the block that point `t` leaves. -/
theorem block_apply (t : Fin cfg0.N) (y : Fin 1024) (o : Fin 2048) :
    (outAt m c t (ix3 0 y o) : EReal)
      = result m c (ix3 ⟨t.val / 2, by have := lt16 t; omega⟩ ⟨1024 * (t.val % 2) + y.val, by omega⟩ o) := by
  have hy := y.isLt
  rw [outAt_eq]
  unfold outPieces
  rw [canon_block, blk7, blk8]
  show layerNorm _ _ _ _ = layerNorm (mixRow (argX m c) (argW m c) (argB m c) (argMem m c) (argLa m c)
    ⟨t.val / 2, by have := lt16 t; omega⟩ ⟨1024 * (t.val % 2) + y.val, by omega⟩) _ _ _
  congr 1
  funext o'
  have e1 : (1024 * (t.val % 2) + y.val) / 1024 = t.val % 2 := by omega
  have e2 : (1024 * (t.val % 2) + y.val) % 1024 / 256 = y.val / 256 := by omega
  have e3 : (1024 * (t.val % 2) + y.val) % 256 = y.val % 256 := by omega
  have e4 : y.val / 256 % 4 = y.val / 256 := by omega
  have hs : ∀ q : Fin 328, (slabOf (F := Ideal) (grid0.coords t) (View.canon (bandPieces (iblk m c 0 t0) (iblk m c 1 t0))) (y.val / 256)
      (ix3 0 ⟨y.val % 256, by omega⟩ q) : EReal)
      = Cert.Band.entry (wMem (argMem m c)) (wLa (argLa m c)) (Cert.Band.slab (t.val % 2) (y.val / 256)) (y.val % 256) q.val := by
    intro q
    rw [slabOf_apply _ _ _ (by omega), canon_band, blk0, blk1]
    show Cert.Band.entry _ _ (Cert.Band.slab (grid0.coords t 1).val _) _ _ = _
    rw [half]
  simp only [rowVal, mixRow, hs, ext_row, blk5, blk6, e1, e2, e3, e4]

/-- The output array after the run. -/
theorem final : (dats m 0 c).arrAt 9 (cfgs 0).N = result m c := by
  refine (dats m 0 c).arrAt_eq_of_covers 9 _ (by decide +kernel) fun t _ y => ?_
  blk_simp
  rw [after9]
  idx_vars y
  obtain rfl : y0 = 0 := Subsingleton.elim _ _
  refine (block_apply m c t y1 y2).trans ?_
  blk_ext [idx t]

end Final

end Cert.KernelIdeal.Body

end
-- ==== Proof.Agree.lean ====
/- The row the kernel normalises is the row the reference normalises, when the inputs are real numbers. -/
module

public import proofs.«01_k».proof.Proof.RefValue
public import proofs.«01_k».proof.Proof.Outputs
public import proofs.«01_k».proof.Proof.Equation

@[expose] public section

set_option maxRecDepth 16384

noncomputable section

namespace Cert.Agree

open Cert.KernelIdeal.Body (wMem wLa mixRow rowOf_lt)
open Cert.ReferenceIdeal.Taps (hAt refRow)
open Idealize.ShloMosaic Idealize.ShloMosaic.TcCoe Idealize.ShloMosaic.Tactic
open Finset (range)

/-- The inclusion of the real numbers in the extended reals, as a homomorphism of addition. -/
def toE : ℝ →+ EReal := ⟨⟨Real.toEReal, EReal.coe_zero⟩, EReal.coe_add⟩

theorem toE_mul (a b : ℝ) : toE (a * b) = toE a * toE b := EReal.coe_mul a b
theorem toE_one : toE 1 = 1 := EReal.coe_one

/-- The band matrix of real weights, included, is the band matrix of the included weights. -/
theorem entry_toE (wm wf : ℕ → ℝ) (s p q : ℕ) :
    Cert.Band.entry (fun j => toE (wm j)) (fun k => toE (wf k)) s p q = toE (Cert.Band.entry wm wf s p q) := by
  have hi : Cert.Band.inner (fun j => toE (wm j)) (fun k => toE (wf k)) p q = toE (Cert.Band.inner wm wf p q) := by
    unfold Cert.Band.inner
    simp only [map_add, map_sum, apply_ite toE, map_zero, toE_one]
  have hh : Cert.Band.head (fun j => toE (wm j)) p q = toE (Cert.Band.head wm p q) := by
    unfold Cert.Band.head
    simp only [map_sum, apply_ite toE, map_zero]
  unfold Cert.Band.entry
  split <;> simp only [hi, hh, map_add, apply_ite toE, map_zero]

/-- Projecting a mixture of rows is mixing the projected rows, the bias included. -/
theorem mix_project (N D : ℕ) (E : Fin N → ℝ) (x : Fin N → Fin D → ℝ) (w : Fin D → ℝ) (b : ℝ) :
    (∑ d, (∑ q, E q * x q d) * w d) + (∑ q, E q) * b = ∑ q, E q * ((∑ d, x q d * w d) + b) := by
  simp only [mul_add, Finset.sum_add_distrib, Finset.sum_mul, Finset.mul_sum]
  rw [Finset.sum_comm]
  simp only [mul_assoc]

section Rows

variable (X : (⟨3, ![8, 2048, 1024]⟩ : Shape).Idx → ℝ) (W : (⟨2, ![2048, 1024]⟩ : Shape).Idx → ℝ) (b : (⟨1, ![2048]⟩ : Shape).Idx → ℝ)
  (mw : (⟨2, ![50, 2048]⟩ : Shape).Idx → ℝ) (lw : (⟨2, ![5, 2048]⟩ : Shape).Idx → ℝ)

/-- The projected row `t`, the past weights and the future weights, as real numbers. -/
def rowR (n : Fin 8) (o : Fin 2048) (t : ℕ) : ℝ := (∑ d : Fin 1024, X (ix3 n ⟨t % 2048, by omega⟩ d) * W (ix2 o d)) + b (ix1 o)
def memR (j : ℕ) : ℝ := ∑ d : Fin 2048, mw (ix2 ⟨j % 50, by omega⟩ d)
def laR (j : ℕ) : ℝ := ∑ d : Fin 2048, lw (ix2 ⟨j % 5, by omega⟩ d)

theorem hAt_toE (n : Fin 8) (o : Fin 2048) (t : ℕ) :
    hAt (fun i => toE (X i)) (fun i => toE (W i)) (fun i => toE (b i)) n o t = toE (rowR X W b n o t) := by
  unfold hAt rowR
  simp only [map_add, map_sum, toE_mul]

theorem wMem_toE : wMem (fun i => toE (mw i)) = fun j => toE (memR mw j) := by
  funext j
  unfold wMem memR
  simp only [map_sum]

theorem wLa_toE : wLa (fun i => toE (lw i)) = fun j => toE (laR lw j) := by
  funext j
  unfold wLa laR
  simp only [map_sum]

/-- The reference's row, over the real numbers. -/
theorem refRow_toE (n : Fin 8) (l o : Fin 2048) :
    refRow (fun i => toE (X i)) (fun i => toE (W i)) (fun i => toE (b i)) (fun i => toE (mw i)) (fun i => toE (lw i)) n l o
      = toE (rowR X W b n o l.val + Cert.Band.past (memR mw) (rowR X W b n o) l.val + Cert.Band.future (laR lw) (rowR X W b n o) l.val) := by
  unfold refRow Cert.Band.past Cert.Band.future
  simp only [hAt_toE, wMem_toE, wLa_toE, map_add, map_sum, toE_mul, apply_ite toE, map_zero]

/-- The kernel's row, over the real numbers. -/
theorem mixRow_toE (n : Fin 8) (l o : Fin 2048) :
    mixRow (fun i => toE (X i)) (fun i => toE (W i)) (fun i => toE (b i)) (fun i => toE (mw i)) (fun i => toE (lw i)) n l o
      = toE (∑ q ∈ range 328, Cert.Band.entry (memR mw) (laR lw) (Cert.Band.slab (l.val / 1024) (l.val % 1024 / 256)) (l.val % 256) q
          * rowR X W b n o (Cert.Band.rowOf (l.val / 1024) (256 * (l.val % 1024 / 256) + q))) := by
  rw [← Fin.sum_univ_eq_sum_range (fun q => Cert.Band.entry (memR mw) (laR lw) (Cert.Band.slab (l.val / 1024) (l.val % 1024 / 256)) (l.val % 256) q
          * rowR X W b n o (Cert.Band.rowOf (l.val / 1024) (256 * (l.val % 1024 / 256) + q))) 328]
  unfold rowR
  rw [← mix_project]
  unfold mixRow
  simp only [wMem_toE, wLa_toE, entry_toE, map_add, map_sum, toE_mul]
  have e : ∀ q : Fin 328, (⟨Cert.Band.rowOf (l.val / 1024) (256 * (l.val % 1024 / 256) + q.val) % 2048, by omega⟩ : Fin 2048)
      = ⟨Cert.Band.rowOf (l.val / 1024) (256 * (l.val % 1024 / 256) + q.val), rowOf_lt _ _ (by omega) (by omega)⟩ :=
    fun q => Fin.ext (Nat.mod_eq_of_lt (rowOf_lt _ _ (by omega) (by omega)))
  simp only [e]

/-- The two rows agree. -/
theorem row_eq (n : Fin 8) (l o : Fin 2048) :
    mixRow (fun i => toE (X i)) (fun i => toE (W i)) (fun i => toE (b i)) (fun i => toE (mw i)) (fun i => toE (lw i)) n l o
      = refRow (fun i => toE (X i)) (fun i => toE (W i)) (fun i => toE (b i)) (fun i => toE (mw i)) (fun i => toE (lw i)) n l o := by
  have hl := l.isLt
  rw [mixRow_toE, refRow_toE, Cert.Band.band_row _ _ _ _ _ _ (by omega) (by omega) (by omega),
    show 1024 * (l.val / 1024) + 256 * (l.val % 1024 / 256) + l.val % 256 = l.val by omega]

end Rows

/-- A finite extended real is a real number. -/
theorem real_of_abs_lt {s : Shape} (x : s.Idx → EReal) (h : ∀ i, max (x i) (-x i) < ⊤) : ∃ r : s.Idx → ℝ, x = fun i => toE (r i) := by
  refine ⟨fun i => (x i).toReal, funext fun i => (EReal.coe_toReal (fun e => ?_) fun e => ?_).symm⟩
  · have := h i; rw [e] at this; simp at this
  · have := h i; rw [e] at this; simp at this

end Cert.Agree

end
-- ==== Proof.Finite.lean ====
/- What the precondition says of its four arrays: every element is a real number. -/
module

public import proofs.«01_k».proof.Proof.Gen.Pre_finite
public import proofs.«01_k».proof.Proof.Agree
public import Idealize.ShloMosaic.Lib.ReduceAll

@[expose] public section

set_option maxRecDepth 16384

noncomputable section

namespace Cert.Agree

open Cert.Pre_finite Cert.Pre_finite.Facts
open Idealize.ShloMosaic Idealize.ShloMosaic.TcCoe Idealize.ShloMosaic.Tactic

theorem inf_eq : (Ideal.ofBits .f32 0x7F800000#32 : EReal) = ⊤ := by
  simp [Ideal.ofBits, Ideal.ieee]

/-- One array of the precondition: where every `|x| < ∞` holds, the array is real. -/
theorem real_of_all {s : Shape} {axes : List (Fin s.rank)} (x : FVec Ideal s .f32) (c : FVec Ideal s .f32) (init : IVec S_ 1)
    (h : s.ReducesTo axes S_) (hu : 0 < S_.numel) (hc : ∀ i, (c i : EReal) = ⊤)
    (e : Host.reduce IntOp.andi (cmpf .olt (Host.absf x) c) init h hu ix0 = 1#1) : ∃ r : s.Idx → ℝ, x = fun i => toE (r i) := by
  haveI : Subsingleton S_.Idx := ⟨fun a b => funext fun i => i.elim0⟩
  refine real_of_abs_lt x fun i => ?_
  have h1 := Host.reduce_andi_all _ init h hu ix0 e i
  have h2 : BitVec.ofBool (decide (max (x i) (-x i) < (c i : EReal))) = 1#1 := by
    rw [← h1]
    simp only [cmpf, Host.absf, Ideal.cmpf_def, Ideal.cmp]
    rfl
  rw [hc i] at h2
  by_contra hn
  rw [decide_eq_false hn] at h2
  exact absurd h2 (by decide)

/-- Under the precondition the weights of the linear part and of the taps are real. -/
theorem finite_reals (x0 : FVec Ideal S8x2048x1024 .f32) (x1 : FVec Ideal S2048x1024 .f32) (x2 : FVec Ideal S2048 .f32)
    (x3 : FVec Ideal S50x2048 .f32) (x4 : FVec Ideal S5x2048 .f32) (x5 x6 : FVec Ideal S2048 .f32)
    (h : Cert.Pre_finite.fn (F := Ideal) x0 x1 x2 x3 x4 x5 x6 = fun _ => 1#1) :
    (∃ r : S2048x1024.Idx → ℝ, x1 = fun i => toE (r i))
      ∧ (∃ r : S2048.Idx → ℝ, x2 = fun i => toE (r i)) ∧ (∃ r : S50x2048.Idx → ℝ, x3 = fun i => toE (r i))
      ∧ ∃ r : S5x2048.Idx → ℝ, x4 = fun i => toE (r i) := by
  have h0 := congrFun h ix0
  unfold Cert.Pre_finite.fn Cert.Pre_finite.fn_part1 at h0
  obtain ⟨h0, e4⟩ := IntOp.andi_eq_one.1 h0
  obtain ⟨h0, e3⟩ := IntOp.andi_eq_one.1 h0
  obtain ⟨e1, e2⟩ := IntOp.andi_eq_one.1 h0
  exact ⟨real_of_all x1 _ _ _ _ (fun _ => inf_eq) e1, real_of_all x2 _ _ _ _ (fun _ => inf_eq) e2,
    real_of_all x3 _ _ _ _ (fun _ => inf_eq) e3, real_of_all x4 _ _ _ _ (fun _ => inf_eq) e4⟩

end Cert.Agree

end
-- ==== Proof.Infinite.lean ====
/- Rows that meet an infinite input. Where such an entry counts, the row has an infinite entry in the kernel and in the
   reference, and the normalisation of such a row is the shift alone. Where none counts, the infinite entries may be
   replaced by zero without changing either row. So the rows' normalisations agree for every input `x`. -/
module

public import proofs.«01_k».proof.Proof.Agree

@[expose] public section

set_option maxRecDepth 16384

noncomputable section

namespace Cert.Agree

open Cert.KernelIdeal.Body (wMem wLa mixRow rowOf_lt avg layerNorm)
open Cert.ReferenceIdeal.Taps (hAt refRow)
open Idealize.ShloMosaic Idealize.ShloMosaic.TcCoe Idealize.ShloMosaic.Tactic
open Finset (range)

/-! ## Infinite values -/

/-- The infinite extended reals. -/
def Inf (z : EReal) : Prop := z = ⊤ ∨ z = ⊥

theorem real_of_not_inf {z : EReal} (h : ¬Inf z) : z = toE z.toReal :=
  (EReal.coe_toReal (fun e => h (.inl e)) fun e => h (.inr e)).symm

theorem Inf.add_right {z : EReal} (h : Inf z) (y : EReal) : Inf (z + y) := by
  rcases h with rfl | rfl
  · induction y with
    | bot => exact .inr rfl
    | coe r => exact .inl rfl
    | top => exact .inl rfl
  · exact .inr (EReal.bot_add y)

theorem Inf.add_left {z : EReal} (h : Inf z) (y : EReal) : Inf (y + z) := add_comm z y ▸ h.add_right y

/-- A sum with an infinite term is infinite. -/
theorem Inf.sum {ι : Type} (s : Finset ι) (f : ι → EReal) (i : ι) (hi : i ∈ s) (h : Inf (f i)) : Inf (∑ j ∈ s, f j) := by
  classical
  rw [← Finset.add_sum_erase s f hi]
  exact h.add_right _

/-- A nonzero real number times an infinite value is infinite. -/
theorem Inf.mul {z : EReal} (h : Inf z) (r : ℝ) (hr : r ≠ 0) : Inf (toE r * z) := by
  show Inf ((r : EReal) * z)
  rcases lt_or_gt_of_ne hr with h0 | h0 <;> rcases h with rfl | rfl
  · exact .inr (EReal.coe_mul_top_of_neg h0)
  · exact .inl (EReal.coe_mul_bot_of_neg h0)
  · exact .inl (EReal.coe_mul_top_of_pos h0)
  · exact .inr (EReal.coe_mul_bot_of_pos h0)

theorem Inf.sq {z : EReal} (h : Inf z) : z * z = ⊤ := by
  rcases h with rfl | rfl
  · exact EReal.top_mul_top
  · exact EReal.bot_mul_bot

theorem Inf.neg {z : EReal} (h : Inf z) : Inf (-z) := by
  rcases h with rfl | rfl
  · exact .inr rfl
  · exact .inl rfl

/-! ## The normalisation of a row with an infinite entry -/

/-- The width, as the programs write it. -/
theorem width_eq : (Ideal.ofBits .f32 0x45000000#32 : EReal) = ((2048 : ℝ) : EReal) := by
  simp [Ideal.ofBits, Ideal.ieee]
  rw [← EReal.coe_mul]
  norm_num

theorem eps_real : ∃ r : ℝ, (Ideal.ofBits .f32 0x3727C5AC#32 : EReal) = (r : EReal) := by
  simp [Ideal.ofBits, Ideal.ieee]
  exact ⟨_, (EReal.coe_mul _ _).symm⟩

theorem avg_eq (z : Fin 2048 → EReal) : avg z = toE (2048 : ℝ)⁻¹ * ∑ o, z o := by
  unfold avg Ideal.div
  rw [width_eq, if_neg (by exact_mod_cast (by norm_num : (2048 : ℝ) ≠ 0)), mul_comm]
  rfl

theorem avg_inf (z : Fin 2048 → EReal) (o : Fin 2048) (h : Inf (z o)) : Inf (avg z) := by
  rw [avg_eq]
  exact (Inf.sum _ z o (Finset.mem_univ o) h).mul _ (by norm_num)

theorem avg_top : avg (fun _ => ⊤) = ⊤ := by
  have h : ∑ _o : Fin 2048, (⊤ : EReal) = ⊤ := by
    rw [← Finset.add_sum_erase _ _ (Finset.mem_univ 0)]
    exact EReal.top_add_of_ne_bot (ne_of_gt (lt_of_lt_of_le EReal.bot_lt_zero (Finset.sum_nonneg fun _ _ => le_top)))
  rw [avg_eq, h]
  exact EReal.coe_mul_top_of_pos (by norm_num)

/-- The normalisation of a row with an infinite entry is the shift. -/
theorem layerNorm_inf (z : Fin 2048 → EReal) (o' : Fin 2048) (h : Inf (z o')) (g bt : EReal) (o : Fin 2048) :
    layerNorm z g bt o = bt := by
  have hc : ∀ i, Inf (z i - avg z) := fun i => sub_eq_add_neg (z i) (avg z) ▸ (avg_inf z o' h).neg.add_left (z i)
  have hv : (fun i => (z i - avg z) * (z i - avg z)) = fun _ => ⊤ := funext fun i => (hc i).sq
  obtain ⟨r, hr⟩ := eps_real
  unfold layerNorm
  rw [hv, avg_top, hr, EReal.top_add_coe, Ideal.rsqrt_top, mul_zero, zero_mul, zero_add]

/-! ## Which rows of the input count -/

/-- At most one of the columns `a … a + n - 1` is column `q`. -/
theorem sum_column {R : Type} [AddCommMonoid R] (n a q : ℕ) (w : ℕ → R) :
    ∑ j ∈ range n, (if q = a + j then w j else 0) = if a ≤ q ∧ q < a + n then w (q - a) else 0 := by
  split_ifs with h
  · rw [Finset.sum_eq_single (q - a), if_pos (by omega)]
    · intro j _ hj; rw [if_neg (by omega)]
    · intro hj; exact absurd (Finset.mem_range.mpr (by omega)) hj
  · refine Finset.sum_eq_zero fun j hj => ?_
    have := Finset.mem_range.mp hj
    rw [if_neg (by omega)]

/-- An entry of the band matrix is 0, 1 or one weight: a function that keeps 0 and 1 passes to the weights. -/
theorem entry_map {R S : Type} [AddCommMonoid R] [One R] [AddCommMonoid S] [One S] (f : R → S) (h0 : f 0 = 0) (h1 : f 1 = 1)
    (wm wf : ℕ → R) (s p q : ℕ) :
    Cert.Band.entry (fun j => f (wm j)) (fun k => f (wf k)) s p q = f (Cert.Band.entry wm wf s p q) := by
  have hi : Cert.Band.inner (fun j => f (wm j)) (fun k => f (wf k)) p q = f (Cert.Band.inner wm wf p q) := by
    simp only [Cert.Band.inner, sum_column]
    split_ifs <;> first | omega | simp only [add_zero, zero_add, h0, h1]
  have hh : Cert.Band.head (fun j => f (wm j)) p q = f (Cert.Band.head wm p q) := by
    unfold Cert.Band.head
    by_cases hq : 64 ≤ q ∧ q < 64 + 49 ∧ q - 64 < p ∧ p < 50
    · rw [Finset.sum_eq_single (q - 64), if_pos (by omega), Finset.sum_eq_single (q - 64), if_pos (by omega)]
      · intro j _ hj; rw [if_neg (by omega)]
      · intro hj; exact absurd (Finset.mem_range.mpr (by omega)) hj
      · intro j _ hj; rw [if_neg (by omega)]
      · intro hj; exact absurd (Finset.mem_range.mpr (by omega)) hj
    · rw [Finset.sum_eq_zero, Finset.sum_eq_zero, h0]
      · intro j hj
        have := Finset.mem_range.mp hj
        rw [if_neg (by omega)]
      · intro j hj
        have := Finset.mem_range.mp hj
        rw [if_neg (by omega)]
  have hz : ¬(64 ≤ q ∧ q - 64 < p ∧ p < 50) → Cert.Band.head wm p q = 0 := by
    intro hn
    refine Finset.sum_eq_zero fun j hj => ?_
    rw [if_neg (by omega)]
  unfold Cert.Band.entry
  split
  · rw [hi, hh]
    by_cases hn : 64 ≤ q ∧ q - 64 < p ∧ p < 50
    · rw [if_neg (by omega), if_neg (by omega), zero_add, zero_add]
    · rw [hz hn, h0, add_zero, add_zero]
      split_ifs <;> simp only [h0]
  · rw [hi]; split_ifs <;> simp only [h0]
  · exact hi

/-- 0 at 0 and 1 elsewhere. -/
def ind (r : ℝ) : ℝ := if r = 0 then 0 else 1

theorem ind_zero : ind 0 = 0 := if_pos rfl
theorem ind_one : ind 1 = 1 := if_neg one_ne_zero
theorem ind_nonneg (r : ℝ) : 0 ≤ ind r := by unfold ind; split_ifs <;> norm_num
theorem ind_eq_zero {r : ℝ} (h : ind r = 0) : r = 0 := by
  by_contra hr
  exact one_ne_zero ((if_neg hr).symm.trans h)

section Rows

variable (x : (⟨3, ![8, 2048, 1024]⟩ : Shape).Idx → EReal) (W : (⟨2, ![2048, 1024]⟩ : Shape).Idx → ℝ) (b : (⟨1, ![2048]⟩ : Shape).Idx → ℝ)
  (mw : (⟨2, ![50, 2048]⟩ : Shape).Idx → ℝ) (lw : (⟨2, ![5, 2048]⟩ : Shape).Idx → ℝ) (n : Fin 8)

/-- Row `t` of the input has an infinite entry that some feature reads with a nonzero weight. -/
def Bad (t : ℕ) : Prop := ∃ (o : Fin 2048) (d : Fin 1024), Inf (x (ix3 n ⟨t % 2048, by omega⟩ d)) ∧ W (ix2 o d) ≠ 0

open Classical in
/-- 1 at the rows with such an entry. -/
def bad (t : ℕ) : ℝ := if Bad x W n t then 1 else 0

theorem bad_nonneg (t : ℕ) : 0 ≤ bad x W n t := by unfold bad; split_ifs <;> norm_num

theorem not_bad {t : ℕ} (h : bad x W n t = 0) : ¬Bad x W n t := fun hb => one_ne_zero ((if_pos hb).symm.trans h)

/-- A coefficient and a row count for nothing where the coefficient is zero or the row has no such entry. -/
theorem idle {r : ℝ} {t : ℕ} (h : ind r * bad x W n t = 0) : r = 0 ∨ ¬Bad x W n t :=
  (mul_eq_zero.mp h).imp ind_eq_zero (not_bad x W n)

theorem busy {r : ℝ} {t : ℕ} (h : ¬(r = 0 ∨ ¬Bad x W n t)) : r ≠ 0 ∧ Bad x W n t :=
  ⟨fun e => h (.inl e), not_not.mp fun e => h (.inr e)⟩

/-- The input with its infinite entries replaced by zero. -/
abbrev tame : (⟨3, ![8, 2048, 1024]⟩ : Shape).Idx → EReal := fun i => toE (x i).toReal

/-- Of a row without such an entry, the products are those of the replaced input. -/
theorem prod_tame {t : ℕ} (h : ¬Bad x W n t) (o : Fin 2048) (d : Fin 1024) (hw : W (ix2 o d) ≠ 0) :
    x (ix3 n ⟨t % 2048, by omega⟩ d) = tame x (ix3 n ⟨t % 2048, by omega⟩ d) :=
  real_of_not_inf fun hi => h ⟨o, d, hi, hw⟩

theorem hAt_tame {t : ℕ} (h : ¬Bad x W n t) (o : Fin 2048) :
    hAt x (fun i => toE (W i)) (fun i => toE (b i)) n o t = hAt (tame x) (fun i => toE (W i)) (fun i => toE (b i)) n o t := by
  unfold hAt
  congr 1
  refine Finset.sum_congr rfl fun d _ => ?_
  by_cases hw : W (ix2 o d) = 0
  · simp only [hw, map_zero, mul_zero]
  · rw [prod_tame x W n h o d hw]

theorem hAt_inf {t : ℕ} (o : Fin 2048) (d : Fin 1024) (hx : Inf (x (ix3 n ⟨t % 2048, by omega⟩ d))) (hw : W (ix2 o d) ≠ 0) :
    Inf (hAt x (fun i => toE (W i)) (fun i => toE (b i)) n o t) := by
  unfold hAt
  refine (Inf.sum _ _ d (Finset.mem_univ d) ?_).add_right _
  rw [mul_comm]
  exact hx.mul _ hw

/-! ## The kernel's row -/

/-- The coefficient of column `q` in the kernel's row `l`, and the input row at that column. -/
def coef (l : Fin 2048) (q : ℕ) : ℝ :=
  Cert.Band.entry (memR mw) (laR lw) (Cert.Band.slab (l.val / 1024) (l.val % 1024 / 256)) (l.val % 256) q
def rowAt (l : Fin 2048) (q : ℕ) : ℕ := Cert.Band.rowOf (l.val / 1024) (256 * (l.val % 1024 / 256) + q)

theorem mixRow_eq (l o : Fin 2048) :
    mixRow x (fun i => toE (W i)) (fun i => toE (b i)) (fun i => toE (mw i)) (fun i => toE (lw i)) n l o
      = (∑ d : Fin 1024, (∑ q : Fin 328, toE (coef mw lw l q.val) * x (ix3 n ⟨rowAt l q.val % 2048, by omega⟩ d)) * toE (W (ix2 o d)))
        + (∑ q : Fin 328, toE (coef mw lw l q.val)) * toE (b (ix1 o)) := by
  unfold mixRow coef
  simp only [wMem_toE, wLa_toE, entry_toE]
  have e : ∀ q : Fin 328, (⟨rowAt l q.val % 2048, by omega⟩ : Fin 2048)
      = ⟨Cert.Band.rowOf (l.val / 1024) (256 * (l.val % 1024 / 256) + q.val), rowOf_lt _ _ (by omega) (by omega)⟩ :=
    fun q => Fin.ext (Nat.mod_eq_of_lt (rowOf_lt _ _ (by omega) (by omega)))
  simp only [e]

theorem mixRow_tame (l o : Fin 2048) (h : ∀ q < 328, coef mw lw l q = 0 ∨ ¬Bad x W n (rowAt l q)) :
    mixRow x (fun i => toE (W i)) (fun i => toE (b i)) (fun i => toE (mw i)) (fun i => toE (lw i)) n l o
      = mixRow (tame x) (fun i => toE (W i)) (fun i => toE (b i)) (fun i => toE (mw i)) (fun i => toE (lw i)) n l o := by
  rw [mixRow_eq, mixRow_eq]
  refine congrArg (· + (∑ q : Fin 328, toE (coef mw lw l q.val)) * toE (b (ix1 o))) (Finset.sum_congr rfl fun d _ => ?_)
  by_cases hw : W (ix2 o d) = 0
  · simp only [hw, map_zero, mul_zero]
  · refine congrArg (· * toE (W (ix2 o d))) (Finset.sum_congr rfl fun q _ => ?_)
    rcases h q.val q.isLt with h0 | h0
    · simp only [h0, map_zero, zero_mul]
    · rw [prod_tame x W n h0 o d hw]

theorem mixRow_inf (l : Fin 2048) (q : ℕ) (hq : q < 328) (hc : coef mw lw l q ≠ 0) (hb : Bad x W n (rowAt l q)) :
    ∃ o, Inf (mixRow x (fun i => toE (W i)) (fun i => toE (b i)) (fun i => toE (mw i)) (fun i => toE (lw i)) n l o) := by
  obtain ⟨o, d, hx, hw⟩ := hb
  refine ⟨o, ?_⟩
  rw [mixRow_eq]
  refine (Inf.sum _ _ d (Finset.mem_univ d) ?_).add_right _
  rw [mul_comm]
  exact (Inf.sum _ _ (⟨q, hq⟩ : Fin 328) (Finset.mem_univ _) (hx.mul _ hc)).mul _ hw

/-! ## The reference's row -/

/-- What row `l` of the reference reads counts for nothing: itself, its past and its future. -/
def Idle (l : Fin 2048) : Prop :=
  ¬Bad x W n l.val
    ∧ (if l.val < 50 then ∀ k < l.val, memR mw k = 0 ∨ ¬Bad x W n k else ∀ j < 50, memR mw j = 0 ∨ ¬Bad x W n (l.val - 50 + j))
    ∧ ∀ k < 5, l.val + 1 + k < 2048 → laR lw k = 0 ∨ ¬Bad x W n (l.val + 1 + k)

theorem tap_tame {r : ℝ} {t : ℕ} (h : r = 0 ∨ ¬Bad x W n t) (o : Fin 2048) :
    toE r * hAt x (fun i => toE (W i)) (fun i => toE (b i)) n o t
      = toE r * hAt (tame x) (fun i => toE (W i)) (fun i => toE (b i)) n o t := by
  rcases h with h | h
  · simp only [h, map_zero, zero_mul]
  · rw [hAt_tame x W b n h]

theorem refRow_tame (l o : Fin 2048) (h : Idle x W mw lw n l) :
    refRow x (fun i => toE (W i)) (fun i => toE (b i)) (fun i => toE (mw i)) (fun i => toE (lw i)) n l o
      = refRow (tame x) (fun i => toE (W i)) (fun i => toE (b i)) (fun i => toE (mw i)) (fun i => toE (lw i)) n l o := by
  obtain ⟨h1, h2, h3⟩ := h
  unfold refRow
  simp only [wMem_toE, wLa_toE]
  rw [hAt_tame x W b n h1]
  refine congrArg₂ (· + ·) (congrArg (fun z => hAt (tame x) (fun i => toE (W i)) (fun i => toE (b i)) n o l.val + z) ?_) ?_
  · split_ifs at h2 ⊢
    · exact Finset.sum_congr rfl fun k hk => tap_tame x W b n (h2 k (Finset.mem_range.mp hk)) o
    · exact Finset.sum_congr rfl fun j hj => tap_tame x W b n (h2 j (Finset.mem_range.mp hj)) o
  · refine Finset.sum_congr rfl fun k hk => ?_
    split_ifs with hk'
    · exact tap_tame x W b n (h3 k (Finset.mem_range.mp hk) hk') o
    · rfl

theorem refRow_inf (l : Fin 2048) (h : ¬Idle x W mw lw n l) :
    ∃ o, Inf (refRow x (fun i => toE (W i)) (fun i => toE (b i)) (fun i => toE (mw i)) (fun i => toE (lw i)) n l o) := by
  unfold refRow
  simp only [wMem_toE, wLa_toE]
  by_cases h1 : Bad x W n l.val
  · obtain ⟨o, d, hx, hw⟩ := h1
    exact ⟨o, ((hAt_inf x W b n o d hx hw).add_right _).add_right _⟩
  by_cases h2 : if l.val < 50 then ∀ k < l.val, memR mw k = 0 ∨ ¬Bad x W n k else ∀ j < 50, memR mw j = 0 ∨ ¬Bad x W n (l.val - 50 + j)
  · have h3 : ¬∀ k < 5, l.val + 1 + k < 2048 → laR lw k = 0 ∨ ¬Bad x W n (l.val + 1 + k) := fun h3 => h ⟨h1, h2, h3⟩
    push Not at h3
    obtain ⟨k, hk, hk', hr, o, d, hx, hw⟩ := h3
    refine ⟨o, (Inf.sum _ _ k (Finset.mem_range.mpr hk) ?_).add_left _⟩
    rw [if_pos hk']
    exact (hAt_inf x W b n o d hx hw).mul _ hr
  · split_ifs at h2 ⊢
    all_goals
      push Not at h2
      obtain ⟨k, hk, hr, o, d, hx, hw⟩ := h2
      exact ⟨o, ((Inf.sum _ _ k (Finset.mem_range.mpr hk) ((hAt_inf x W b n o d hx hw).mul _ hr)).add_left _).add_right _⟩

/-! ## Both rows -/

/-- The kernel's row and the reference's row count the same input rows. -/
theorem counts_iff (l : Fin 2048) : (∀ q < 328, coef mw lw l q = 0 ∨ ¬Bad x W n (rowAt l q)) ↔ Idle x W mw lw n l := by
  have hl := l.isLt
  have hB := bad_nonneg x W n
  have hmul : ∀ r t, 0 ≤ ind r * bad x W n t := fun r t => mul_nonneg (ind_nonneg r) (hB t)
  have hzero : ∀ {r t}, (r = 0 ∨ ¬Bad x W n t) → ind r * bad x W n t = 0 := by
    rintro r t (h | h)
    · rw [h, ind_zero, zero_mul]
    · rw [bad, if_neg h, mul_zero]
  have key := Cert.Band.band_row (fun j => ind (memR mw j)) (fun k => ind (laR lw k)) (bad x W n) (l.val / 1024) (l.val % 1024 / 256) (l.val % 256)
    (by omega) (by omega) (by omega)
  rw [show 1024 * (l.val / 1024) + 256 * (l.val % 1024 / 256) + l.val % 256 = l.val by omega] at key
  simp only [entry_map ind ind_zero ind_one] at key
  change ∑ q ∈ range 328, ind (coef mw lw l q) * bad x W n (rowAt l q) = _ at key
  have hp : 0 ≤ Cert.Band.past (fun j => ind (memR mw j)) (bad x W n) l.val := by
    unfold Cert.Band.past
    split_ifs <;> exact Finset.sum_nonneg fun _ _ => hmul _ _
  have hf : 0 ≤ Cert.Band.future (fun k => ind (laR lw k)) (bad x W n) l.val := by
    unfold Cert.Band.future
    exact Finset.sum_nonneg fun _ _ => by split_ifs; exacts [hmul _ _, le_rfl]
  constructor
  · intro h
    have h0 : ∑ q ∈ range 328, ind (coef mw lw l q) * bad x W n (rowAt l q) = 0 :=
      Finset.sum_eq_zero fun q hq => hzero (h q (Finset.mem_range.mp hq))
    rw [h0] at key
    have hb := hB l.val
    refine ⟨not_bad x W n (by linarith), ?_, ?_⟩
    · have hp0 : Cert.Band.past (fun j => ind (memR mw j)) (bad x W n) l.val = 0 := by linarith
      unfold Cert.Band.past at hp0
      split_ifs at hp0 ⊢
      all_goals exact fun k hk => idle x W n ((Finset.sum_eq_zero_iff_of_nonneg fun _ _ => hmul _ _).mp hp0 k (Finset.mem_range.mpr hk))
    · have hf0 : Cert.Band.future (fun k => ind (laR lw k)) (bad x W n) l.val = 0 := by linarith
      unfold Cert.Band.future at hf0
      intro k hk hk'
      have := (Finset.sum_eq_zero_iff_of_nonneg fun _ _ => by split_ifs; exacts [hmul _ _, le_rfl]).mp hf0 k (Finset.mem_range.mpr hk)
      rw [if_pos hk'] at this
      exact idle x W n this
  · rintro ⟨h1, h2, h3⟩
    have e1 : bad x W n l.val = 0 := if_neg h1
    have e2 : Cert.Band.past (fun j => ind (memR mw j)) (bad x W n) l.val = 0 := by
      unfold Cert.Band.past
      split_ifs at h2 ⊢
      all_goals exact Finset.sum_eq_zero fun k hk => hzero (h2 k (Finset.mem_range.mp hk))
    have e3 : Cert.Band.future (fun k => ind (laR lw k)) (bad x W n) l.val = 0 := by
      unfold Cert.Band.future
      refine Finset.sum_eq_zero fun k hk => ?_
      split_ifs with hk'
      · exact hzero (h3 k (Finset.mem_range.mp hk) hk')
      · rfl
    rw [e1, e2, e3, add_zero, add_zero] at key
    exact fun q hq => idle x W n ((Finset.sum_eq_zero_iff_of_nonneg fun _ _ => hmul _ _).mp key q (Finset.mem_range.mpr hq))

/-- The normalised rows agree, whatever the input `x` holds. -/
theorem normalised_eq (l : Fin 2048) (g bt : EReal) (o : Fin 2048) :
    layerNorm (mixRow x (fun i => toE (W i)) (fun i => toE (b i)) (fun i => toE (mw i)) (fun i => toE (lw i)) n l) g bt o
      = layerNorm (refRow x (fun i => toE (W i)) (fun i => toE (b i)) (fun i => toE (mw i)) (fun i => toE (lw i)) n l) g bt o := by
  by_cases h : Idle x W mw lw n l
  · have hk := (counts_iff x W mw lw n l).mpr h
    refine congrArg (fun z => layerNorm z g bt o) (funext fun o' => ?_)
    rw [mixRow_tame x W b mw lw n l o' hk, refRow_tame x W b mw lw n l o' h]
    exact row_eq (fun i => (x i).toReal) W b mw lw n l o'
  · have hk : ¬∀ q < 328, coef mw lw l q = 0 ∨ ¬Bad x W n (rowAt l q) := fun hk => h ((counts_iff x W mw lw n l).mp hk)
    obtain ⟨o2, h2⟩ := refRow_inf x W b mw lw n l h
    push Not at hk
    obtain ⟨q, hq, hc, hb⟩ := hk
    obtain ⟨o1, h1⟩ := mixRow_inf x W b mw lw n l q hq hc hb
    rw [layerNorm_inf _ o1 h1, layerNorm_inf _ o2 h2]

end Rows

end Cert.Agree

end
-- ==== Proof.lean ====
/- The proof of the certificate's claims: both programs and the reference run, leave their arguments unchanged and every
   semaphore at zero, and the kernel's result is the reference's, over the extended reals, on finite weights. -/
module

public import proofs.«01_k».proof.Proof.Finite
public import proofs.«01_k».proof.Proof.Infinite
public import proofs.«01_k».proof.Proof.FrameBits
public import proofs.«01_k».proof.Proof.FrameIdeal
public import Idealize.ShloMosaic.Lib.Claim
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's frame. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- What the kernel leaves in its output is what the reference computes, for finite weights and any input. -/
theorem value_eq (m : (ℓ : Loc Cert.KernelIdeal.nD Cert.KernelIdeal.τ Cert.KernelIdeal.sig) → Buf (Elt Ideal) ℓ)
    (hpre : Cert.Pre_KernelIdeal_finite (hPre_finite := Cert.Pre_finite.Gen.facts) m) (c : Dev Cert.KernelIdeal.nD) :
    Cert.KernelIdeal.Body.result m c
      = Cert.ReferenceIdeal.Read.val_main_v367 (F := Ideal) (Cert.KernelIdeal.Body.argX m c) (Cert.KernelIdeal.Body.argW m c)
          (Cert.KernelIdeal.Body.argB m c) (Cert.KernelIdeal.Body.argMem m c) (Cert.KernelIdeal.Body.argLa m c)
          (Cert.KernelIdeal.Body.argG m c) (Cert.KernelIdeal.Body.argBt m c) := by
  obtain ⟨⟨W, hW⟩, ⟨b, hb⟩, ⟨mw, hm⟩, ⟨lw, hl⟩⟩ := Cert.Agree.finite_reals _ _ _ _ _ _ _ (hpre c)
  rw [Cert.ReferenceIdeal.Taps.reference_eq]
  funext j
  show Cert.KernelIdeal.Body.layerNorm (Cert.KernelIdeal.Body.mixRow (Cert.KernelIdeal.Body.argX m c) (Cert.KernelIdeal.Body.argW m c)
      (Cert.KernelIdeal.Body.argB m c) (Cert.KernelIdeal.Body.argMem m c) (Cert.KernelIdeal.Body.argLa m c) (j 0) (j 1)) _ _ _ = _
  rw [show Cert.KernelIdeal.Body.argW m c = _ from hW, show Cert.KernelIdeal.Body.argB m c = _ from hb,
    show Cert.KernelIdeal.Body.argMem m c = _ from hm, show Cert.KernelIdeal.Body.argLa m c = _ from hl]
  exact Cert.Agree.normalised_eq (Cert.KernelIdeal.Body.argX m c) W b mw lw (j 0) (j 1) _ _ (j 2)

set_option maxHeartbeats 1600000 in
/-- The kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Body.run_main m g
  · run_from Cert.ReferenceIdeal.Value.run m' g'
    obtain ⟨h0, h1, h2, h3, h4, h5, h6⟩ := hagree c
    rw [Cert.KernelIdeal.Body.final m c, value_eq m hpre c, ← h5, ← h6]
    refine (Cert.ReferenceIdeal.Read.val_main_v367_eq (F := Ideal) (StableHlo.launchContents m' c)).trans ?_
    show Cert.ReferenceIdeal.Read.val_main_v367 (F := Ideal) (m' (c.tc.loc Cert.ReferenceIdeal.main_arg0))
        (m' (c.tc.loc Cert.ReferenceIdeal.main_arg1)) (m' (c.tc.loc Cert.ReferenceIdeal.main_arg2))
        (m' (c.tc.loc Cert.ReferenceIdeal.main_arg3)) (m' (c.tc.loc Cert.ReferenceIdeal.main_arg4))
        (m' (c.tc.loc Cert.ReferenceIdeal.main_arg5)) (m' (c.tc.loc Cert.ReferenceIdeal.main_arg6)) = _
    rw [h0, h1, h2, h3, h4, h5, h6]

/-- Every claim of the certificate. -/
theorem claim : Cert.Claim := ⟨Cert.Kernel.Gen.facts, Cert.KernelIdeal.Gen.facts, Cert.ReferenceIdeal.Gen.facts, Cert.Pre_finite.Gen.facts,
  fun m g _ => Cert.Kernel.Body.frame m g, fun m g _ => Cert.KernelIdeal.Body.frame m g, fun m g _ => Cert.KernelIdeal.Body.frame m g,
  frame_reference, fun m g _ => frame_reference m g trivial, trivial, algebraic⟩

end Cert.Proof

end
